-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S64x2x512 Cert.KernelIdeal.S64x1x512
  ∧ IdealRules.bf16_pair.BufferStatement Cert.KernelIdeal.S2x32x2x512 Cert.KernelIdeal.S2x32x1x512
  ∧ IdealRules.bf16_pair.Statement Cert.KernelIdeal.S16x128 Cert.KernelIdeal.S8x128
  ∧ IdealRules.bf16_pair.SelectZeroStatement Cert.KernelIdeal.S8x128
  ∧ IdealRules.bf16_pair.Statement Cert.KernelIdeal.S128x512 Cert.KernelIdeal.S64x512
  ∧ IdealRules.bf16_pair.Statement Cert.KernelIdeal.S64x2x512 Cert.KernelIdeal.S64x1x512
  ∧ IdealRules.bf16_pair.Statement Cert.KernelIdeal.S64x128 Cert.KernelIdeal.S32x128
  ∧ IdealRules.bf16_pair.Statement Cert.KernelIdeal.S1x8x2x128 Cert.KernelIdeal.S1x8x1x128
  ∧ IdealRules.bf16_pair.Statement Cert.KernelIdeal.S1x2x256 Cert.KernelIdeal.S1x1x256
  ∧ IdealRules.bf16_pair.Statement Cert.KernelIdeal.S16x256 Cert.KernelIdeal.S8x256
  ∧ IdealRules.bf16_pair.Statement Cert.KernelIdeal.S1x1x2x256 Cert.KernelIdeal.S1x1x1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x8192 : Shape := ⟨3, ![16, 1, 8192]⟩
abbrev S8192x8192 : Shape := ⟨2, ![8192, 8192]⟩
abbrev S64x8192 : Shape := ⟨2, ![64, 8192]⟩
abbrev S64x16384 : Shape := ⟨2, ![64, 16384]⟩
abbrev S16x8192 : Shape := ⟨2, ![16, 8192]⟩
abbrev S16x16384 : Shape := ⟨2, ![16, 16384]⟩
abbrev S8192x512 : Shape := ⟨2, ![8192, 512]⟩
abbrev S64x512 : Shape := ⟨2, ![64, 512]⟩
abbrev S64x1024 : Shape := ⟨2, ![64, 1024]⟩
abbrev S16x1024 : Shape := ⟨2, ![16, 1024]⟩
abbrev S64x32x256 : Shape := ⟨3, ![64, 32, 256]⟩
abbrev S2x32x512 : Shape := ⟨3, ![2, 32, 512]⟩
abbrev S16x128 : Shape := ⟨2, ![16, 128]⟩
abbrev S8x128 : Shape := ⟨2, ![8, 128]⟩
abbrev S16x128x1 : Shape := ⟨3, ![16, 128, 1]⟩
abbrev S1x16x128 : Shape := ⟨3, ![1, 16, 128]⟩
abbrev S64x1x512 : Shape := ⟨3, ![64, 1, 512]⟩
abbrev S64x2x512 : Shape := ⟨3, ![64, 2, 512]⟩
abbrev S128x512 : Shape := ⟨2, ![128, 512]⟩
abbrev S64x128 : Shape := ⟨2, ![64, 128]⟩
abbrev S32x128 : Shape := ⟨2, ![32, 128]⟩
abbrev S1x8x128 : Shape := ⟨3, ![1, 8, 128]⟩
abbrev S32x256 : Shape := ⟨2, ![32, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S16x16x256 : Shape := ⟨3, ![16, 16, 256]⟩
abbrev S1x256 : Shape := ⟨2, ![1, 256]⟩
abbrev S8x256 : Shape := ⟨2, ![8, 256]⟩
abbrev S16x256 : Shape := ⟨2, ![16, 256]⟩
abbrev S1x1x256 : Shape := ⟨3, ![1, 1, 256]⟩
abbrev S1x16x256 : Shape := ⟨3, ![1, 16, 256]⟩
abbrev S1x32x256 : Shape := ⟨3, ![1, 32, 256]⟩

abbrev nBuf : Space → Nat
  | .hbm => 6
  | .vmem => 12
  | .smem => 0
  | _ => 0

abbrev bufTy : (tb : Table) → Fin (tcTables nBuf tb) → BufTy
  | .hbm, ⟨0, _⟩ => ⟨S16x1x8192, .bf16⟩
  | .hbm, ⟨1, _⟩ => ⟨S8192x8192, .i8⟩
  | .hbm, ⟨2, _⟩ => ⟨S64x8192, .i8⟩
  | .hbm, ⟨3, _⟩ => ⟨S64x16384, .bf16⟩
  | .hbm, ⟨4, _⟩ => ⟨S16x8192, .bf16⟩
  | .hbm, ⟨5, _⟩ => ⟨S16x16384, .bf16⟩
  | .local _ .vmem, ⟨0, _⟩ => ⟨S16x8192, .bf16⟩
  | .local _ .vmem, ⟨1, _⟩ => ⟨S8192x512, .i8⟩
  | .local _ .vmem, ⟨2, _⟩ => ⟨S8192x512, .i8⟩
  | .local _ .vmem, ⟨3, _⟩ => ⟨S64x512, .i8⟩
  | .local _ .vmem, ⟨4, _⟩ => ⟨S64x512, .i8⟩
  | .local _ .vmem, ⟨5, _⟩ => ⟨S64x1024, .bf16⟩
  | .local _ .vmem, ⟨6, _⟩ => ⟨S64x1024, .bf16⟩
  | .local _ .vmem, ⟨7, _⟩ => ⟨S16x1024, .bf16⟩
  | .local _ .vmem, ⟨8, _⟩ => ⟨S16x1024, .bf16⟩
  | .local _ .vmem, ⟨9, _⟩ => ⟨S64x32x256, .bf16⟩
  | .local _ .vmem, ⟨10, _⟩ => ⟨S64x512, .i32⟩
  | .local _ .vmem, ⟨11, _⟩ => ⟨S2x32x512, .i32⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_494 : BitVec 32 := 0#32
  let c64_i32_495 : BitVec 32 := 64#32
  let v1806 : BitVec 32 := Scalar.addi c0_i32_494 c64_i32_495
  let c1_i32_496 : BitVec 32 := 1#32
  ⟨c0_i32_494, v1806, c1_i32_496⟩
def k0_mult1 (k0_t1 : Fin k0_t1_loop.trips) : BitVec 32 :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let c128_i32_500 : BitVec 32 := 128#32
  let v1809 : BitVec 32 := Scalar.muli v1808 c128_i32_500
  v1809
def k0_off1 (k0_t1 : Fin k0_t1_loop.trips) : Fin 2 → Nat :=
  let c0_501 : Index := 0#32
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let c128_i32_500 : BitVec 32 := 128#32
  let v1809 : BitVec 32 := Scalar.muli v1808 c128_i32_500
  let v1810 : BitVec 32 := v1809
  let v1811 : Index := Scalar.indexCast v1810
  ![0, v1811.toNat]
def k0_off2 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1840 : Index := Scalar.indexCast v1808
  let c0_509 : Index := 0#32
  let c0_510 : Index := 0#32
  ![v1840.toNat, 0, 0]
def k0_off3 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1846 : Index := Scalar.indexCast v1808
  let c16_511 : Index := 16#32
  let c0_512 : Index := 0#32
  ![v1846.toNat, 16, 0]
def k0_off4 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1870 : Index := Scalar.indexCast v1808
  let c0_518 : Index := 0#32
  let c128_519 : Index := 128#32
  ![v1870.toNat, 0, 128]
def k0_off5 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1876 : Index := Scalar.indexCast v1808
  let c16_520 : Index := 16#32
  let c128_521 : Index := 128#32
  ![v1876.toNat, 16, 128]
@[reducible] def k0_t2_loop : Scf.Loop 32 :=
  let c0_i32_417 : BitVec 32 := 0#32
  let c64_i32_418 : BitVec 32 := 64#32
  let v1507 : BitVec 32 := Scalar.addi c0_i32_417 c64_i32_418
  let c1_i32_419 : BitVec 32 := 1#32
  ⟨c0_i32_417, v1507, c1_i32_419⟩
def k0_mult2 (k0_t2 : Fin k0_t2_loop.trips) : BitVec 32 :=
  let c0_i32_417 : BitVec 32 := 0#32
  let c1_i32_419 : BitVec 32 := 1#32
  let arg9 : BitVec 32 := Scf.iv c0_i32_417 c1_i32_419 k0_t2
  let c128_i32_494 : BitVec 32 := 128#32
  let v1806 : BitVec 32 := Scalar.muli arg9 c128_i32_494
  v1806
def k0_off6 (k0_t2 : Fin k0_t2_loop.trips) : Fin 2 → Nat :=
  let c0_i32_417 : BitVec 32 := 0#32
  let c1_i32_419 : BitVec 32 := 1#32
  let arg9 : BitVec 32 := Scf.iv c0_i32_417 c1_i32_419 k0_t2
  let c128_i32_494 : BitVec 32 := 128#32
  let v1806 : BitVec 32 := Scalar.muli arg9 c128_i32_494
  let v1807 : BitVec 32 := v1806
  let v1808 : Index := Scalar.indexCast v1807
  let c0_495 : Index := 0#32
  ![v1808.toNat, 0]
def k0_off7 (k0_t2 : Fin k0_t2_loop.trips) : Fin 2 → Nat :=
  let c0_i32_417 : BitVec 32 := 0#32
  let c1_i32_419 : BitVec 32 := 1#32
  let arg9 : BitVec 32 := Scf.iv c0_i32_417 c1_i32_419 k0_t2
  let v1821 : Index := Scalar.indexCast arg9
  let c0_498 : Index := 0#32
  ![v1821.toNat, 0]
def k0_off8 (k0_t2 : Fin k0_t2_loop.trips) : Fin 3 → Nat :=
  let c0_i32_417 : BitVec 32 := 0#32
  let c1_i32_419 : BitVec 32 := 1#32
  let arg9 : BitVec 32 := Scf.iv c0_i32_417 c1_i32_419 k0_t2
  let c2_i32_499 : BitVec 32 := 2#32
  let v1825 : BitVec 32 := Scalar.remsi arg9 c2_i32_499
  let v1827 : Index := Scalar.indexCast v1825
  let c2_i32_500 : BitVec 32 := 2#32
  let v1826 : BitVec 32 := Scalar.divsi arg9 c2_i32_500
  let v1828 : Index := Scalar.indexCast v1826
  let c0_501 : Index := 0#32
  ![v1827.toNat, v1828.toNat, 0]
def k0_off9 (k0_t2 : Fin k0_t2_loop.trips) : Fin 3 → Nat :=
  let c0_i32_417 : BitVec 32 := 0#32
  let c1_i32_419 : BitVec 32 := 1#32
  let arg9 : BitVec 32 := Scf.iv c0_i32_417 c1_i32_419 k0_t2
  let v1840 : Index := Scalar.indexCast arg9
  let c0_502 : Index := 0#32
  let c0_503 : Index := 0#32
  ![v1840.toNat, 0, 0]
@[reducible] def k0_t3_loop : Scf.Loop 32 :=
  let c0_i32_456 : BitVec 32 := 0#32
  let c64_i32_457 : BitVec 32 := 64#32
  let v1657 : BitVec 32 := Scalar.addi c0_i32_456 c64_i32_457
  let c1_i32_458 : BitVec 32 := 1#32
  ⟨c0_i32_456, v1657, c1_i32_458⟩
def k0_mult3 (k0_t3 : Fin k0_t3_loop.trips) : BitVec 32 :=
  let c0_i32_456 : BitVec 32 := 0#32
  let c1_i32_458 : BitVec 32 := 1#32
  let arg9 : BitVec 32 := Scf.iv c0_i32_456 c1_i32_458 k0_t3
  let c128_i32_494 : BitVec 32 := 128#32
  let v1806 : BitVec 32 := Scalar.muli arg9 c128_i32_494
  v1806
def k0_off10 (k0_t3 : Fin k0_t3_loop.trips) : Fin 2 → Nat :=
  let c0_i32_456 : BitVec 32 := 0#32
  let c1_i32_458 : BitVec 32 := 1#32
  let arg9 : BitVec 32 := Scf.iv c0_i32_456 c1_i32_458 k0_t3
  let c128_i32_494 : BitVec 32 := 128#32
  let v1806 : BitVec 32 := Scalar.muli arg9 c128_i32_494
  let v1807 : BitVec 32 := v1806
  let v1808 : Index := Scalar.indexCast v1807
  let c256_495 : Index := 256#32
  ![v1808.toNat, 256]
def k0_off11 (k0_t3 : Fin k0_t3_loop.trips) : Fin 2 → Nat :=
  let c0_i32_456 : BitVec 32 := 0#32
  let c1_i32_458 : BitVec 32 := 1#32
  let arg9 : BitVec 32 := Scf.iv c0_i32_456 c1_i32_458 k0_t3
  let v1821 : Index := Scalar.indexCast arg9
  let c256_498 : Index := 256#32
  ![v1821.toNat, 256]
def k0_off12 (k0_t3 : Fin k0_t3_loop.trips) : Fin 3 → Nat :=
  let c0_i32_456 : BitVec 32 := 0#32
  let c1_i32_458 : BitVec 32 := 1#32
  let arg9 : BitVec 32 := Scf.iv c0_i32_456 c1_i32_458 k0_t3
  let c2_i32_499 : BitVec 32 := 2#32
  let v1825 : BitVec 32 := Scalar.remsi arg9 c2_i32_499
  let v1827 : Index := Scalar.indexCast v1825
  let c2_i32_500 : BitVec 32 := 2#32
  let v1826 : BitVec 32 := Scalar.divsi arg9 c2_i32_500
  let v1828 : Index := Scalar.indexCast v1826
  let c256_501 : Index := 256#32
  ![v1827.toNat, v1828.toNat, 256]
def k0_off13 (k0_t3 : Fin k0_t3_loop.trips) : Fin 3 → Nat :=
  let c0_i32_456 : BitVec 32 := 0#32
  let c1_i32_458 : BitVec 32 := 1#32
  let arg9 : BitVec 32 := Scf.iv c0_i32_456 c1_i32_458 k0_t3
  let v1840 : Index := Scalar.indexCast arg9
  let c0_502 : Index := 0#32
  let c0_503 : Index := 0#32
  ![v1840.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S16x1x8192 : Shape := ⟨3, ![16, 1, 8192]⟩
abbrev S8192x8192 : Shape := ⟨2, ![8192, 8192]⟩
abbrev S64x8192 : Shape := ⟨2, ![64, 8192]⟩
abbrev S64x16384 : Shape := ⟨2, ![64, 16384]⟩
abbrev S16x8192 : Shape := ⟨2, ![16, 8192]⟩
abbrev S16x16384 : Shape := ⟨2, ![16, 16384]⟩
abbrev S8192x512 : Shape := ⟨2, ![8192, 512]⟩
abbrev S64x512 : Shape := ⟨2, ![64, 512]⟩
abbrev S64x1024 : Shape := ⟨2, ![64, 1024]⟩
abbrev S16x1024 : Shape := ⟨2, ![16, 1024]⟩
abbrev S64x32x256 : Shape := ⟨3, ![64, 32, 256]⟩
abbrev S64x2x512 : Shape := ⟨3, ![64, 2, 512]⟩
abbrev S64x1x512 : Shape := ⟨3, ![64, 1, 512]⟩
abbrev S2x32x512 : Shape := ⟨3, ![2, 32, 512]⟩
abbrev S2x32x2x512 : Shape := ⟨4, ![2, 32, 2, 512]⟩
abbrev S2x32x1x512 : Shape := ⟨4, ![2, 32, 1, 512]⟩
abbrev S16x128 : Shape := ⟨2, ![16, 128]⟩
abbrev S8x128 : Shape := ⟨2, ![8, 128]⟩
abbrev S16x128x1 : Shape := ⟨3, ![16, 128, 1]⟩
abbrev S1x16x128 : Shape := ⟨3, ![1, 16, 128]⟩
abbrev S128x512 : Shape := ⟨2, ![128, 512]⟩
abbrev S64x128 : Shape := ⟨2, ![64, 128]⟩
abbrev S32x128 : Shape := ⟨2, ![32, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S32x256 : Shape := ⟨2, ![32, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S16x16x256 : Shape := ⟨3, ![16, 16, 256]⟩
abbrev S1x256 : Shape := ⟨2, ![1, 256]⟩
abbrev S1x2x256 : Shape := ⟨3, ![1, 2, 256]⟩
abbrev S1x1x256 : Shape := ⟨3, ![1, 1, 256]⟩
abbrev S8x256 : Shape := ⟨2, ![8, 256]⟩
abbrev S16x256 : Shape := ⟨2, ![16, 256]⟩
abbrev S1x1x2x256 : Shape := ⟨4, ![1, 1, 2, 256]⟩
abbrev S1x1x1x256 : Shape := ⟨4, ![1, 1, 1, 256]⟩
abbrev S1x16x256 : Shape := ⟨3, ![1, 16, 256]⟩
abbrev S1x32x256 : Shape := ⟨3, ![1, 32, 256]⟩

abbrev nBuf : Space → Nat
  | .hbm => 6
  | .vmem => 12
  | .smem => 0
  | _ => 0

abbrev bufTy : (tb : Table) → Fin (tcTables nBuf tb) → BufTy
  | .hbm, ⟨0, _⟩ => ⟨S16x1x8192, .bf16⟩
  | .hbm, ⟨1, _⟩ => ⟨S8192x8192, .i8⟩
  | .hbm, ⟨2, _⟩ => ⟨S64x8192, .i8⟩
  | .hbm, ⟨3, _⟩ => ⟨S64x16384, .bf16⟩
  | .hbm, ⟨4, _⟩ => ⟨S16x8192, .bf16⟩
  | .hbm, ⟨5, _⟩ => ⟨S16x16384, .bf16⟩
  | .local _ .vmem, ⟨0, _⟩ => ⟨S16x8192, .bf16⟩
  | .local _ .vmem, ⟨1, _⟩ => ⟨S8192x512, .i8⟩
  | .local _ .vmem, ⟨2, _⟩ => ⟨S8192x512, .i8⟩
  | .local _ .vmem, ⟨3, _⟩ => ⟨S64x512, .i8⟩
  | .local _ .vmem, ⟨4, _⟩ => ⟨S64x512, .i8⟩
  | .local _ .vmem, ⟨5, _⟩ => ⟨S64x1024, .bf16⟩
  | .local _ .vmem, ⟨6, _⟩ => ⟨S64x1024, .bf16⟩
  | .local _ .vmem, ⟨7, _⟩ => ⟨S16x1024, .bf16⟩
  | .local _ .vmem, ⟨8, _⟩ => ⟨S16x1024, .bf16⟩
  | .local _ .vmem, ⟨9, _⟩ => ⟨S64x32x256, .bf16⟩
  | .local _ .vmem, ⟨10, _⟩ => ⟨S64x2x512, .bf16⟩
  | .local _ .vmem, ⟨11, _⟩ => ⟨S2x32x2x512, .bf16⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_494 : BitVec 32 := 0#32
  let c64_i32_495 : BitVec 32 := 64#32
  let v1806 : BitVec 32 := Scalar.addi c0_i32_494 c64_i32_495
  let c1_i32_496 : BitVec 32 := 1#32
  ⟨c0_i32_494, v1806, c1_i32_496⟩
def k0_mult1 (k0_t1 : Fin k0_t1_loop.trips) : BitVec 32 :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let c128_i32_500 : BitVec 32 := 128#32
  let v1809 : BitVec 32 := Scalar.muli v1808 c128_i32_500
  v1809
def k0_off1 (k0_t1 : Fin k0_t1_loop.trips) : Fin 2 → Nat :=
  let c0_501 : Index := 0#32
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let c128_i32_500 : BitVec 32 := 128#32
  let v1809 : BitVec 32 := Scalar.muli v1808 c128_i32_500
  let v1810 : BitVec 32 := v1809
  let v1811 : Index := Scalar.indexCast v1810
  ![0, v1811.toNat]
def k0_off2 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1840 : Index := Scalar.indexCast v1808
  let c0_509 : Index := 0#32
  let c0_510 : Index := 0#32
  ![v1840.toNat, 0, 0]
def k0_off3 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1846 : Index := Scalar.indexCast v1808
  let c16_511 : Index := 16#32
  let c0_512 : Index := 0#32
  ![v1846.toNat, 16, 0]
def k0_off4 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1870 : Index := Scalar.indexCast v1808
  let c0_518 : Index := 0#32
  let c128_519 : Index := 128#32
  ![v1870.toNat, 0, 128]
def k0_off5 (k0_t1 : Fin k0_t1_loop.trips) : Fin 3 → Nat :=
  let c0_i32_499 : BitVec 32 := 0#32
  let c0_i32_494 : BitVec 32 := 0#32
  let c1_i32_496 : BitVec 32 := 1#32
  let arg9 : BitVec 32 := Scf.iv c0_i32_494 c1_i32_496 k0_t1
  let c1_i32_498 : BitVec 32 := 1#32
  let v1807 : BitVec 32 := Scalar.muli arg9 c1_i32_498
  let v1808 : BitVec 32 := Scalar.addi c0_i32_499 v1807
  let v1876 : Index := Scalar.indexCast v1808
  let c16_520 : Index := 16#32
  let c128_521 : Index := 128#32
  ![v1876.toNat, 16, 128]
@[reducible] def k0_t2_loop : Scf.Loop 32 :=
  let c0_i32_417 : BitVec 32 := 0#32
  let c64_i32_418 : BitVec 32 := 64#32
  let v1507 : BitVec 32 := Scalar.addi c0_i32_417 c64_i32_418
  let c1_i32_419 : BitVec 32 := 1#32
  ⟨c0_i32_417, v1507, c1_i32_419⟩
def k0_mult2 (k0_t2 : Fin k0_t2_loop.trips) : BitVec 32 :=
  let c0_i32_417 : BitVec 32 := 0#32
  let c1_i32_419 : BitVec 32 := 1#32
  let arg9 : BitVec 32 := Scf.iv c0_i32_417 c1_i32_419 k0_t2
  let c128_i32_494 : BitVec 32 := 128#32
  let v1806 : BitVec 32 := Scalar.muli arg9 c128_i32_494
  v1806
def k0_off6 (k0_t2 : Fin k0_t2_loop.trips) : Fin 2 → Nat :=
  let c0_i32_417 : BitVec 32 := 0#32
  let c1_i32_419 : BitVec 32 := 1#32
  let arg9 : BitVec 32 := Scf.iv c0_i32_417 c1_i32_419 k0_t2
  let c128_i32_494 : BitVec 32 := 128#32
  let v1806 : BitVec 32 := Scalar.muli arg9 c128_i32_494
  let v1807 : BitVec 32 := v1806
  let v1808 : Index := Scalar.indexCast v1807
  let c0_495 : Index := 0#32
  ![v1808.toNat, 0]
def k0_off7 (k0_t2 : Fin k0_t2_loop.trips) : Fin 3 → Nat :=
  let c0_i32_417 : BitVec 32 := 0#32
  let c1_i32_419 : BitVec 32 := 1#32
  let arg9 : BitVec 32 := Scf.iv c0_i32_417 c1_i32_419 k0_t2
  let v1821 : Index := Scalar.indexCast arg9
  let c0_498 : Index := 0#32
  ![v1821.toNat, 0, 0]
def k0_off8 (k0_t2 : Fin k0_t2_loop.trips) : Fin 4 → Nat :=
  let c0_i32_417 : BitVec 32 := 0#32
  let c1_i32_419 : BitVec 32 := 1#32
  let arg9 : BitVec 32 := Scf.iv c0_i32_417 c1_i32_419 k0_t2
  let c2_i32_499 : BitVec 32 := 2#32
  let v1825 : BitVec 32 := Scalar.remsi arg9 c2_i32_499
  let v1827 : Index := Scalar.indexCast v1825
  let c2_i32_500 : BitVec 32 := 2#32
  let v1826 : BitVec 32 := Scalar.divsi arg9 c2_i32_500
  let v1828 : Index := Scalar.indexCast v1826
  let c0_501 : Index := 0#32
  ![v1827.toNat, v1828.toNat, 0, 0]
def k0_off9 (k0_t2 : Fin k0_t2_loop.trips) : Fin 3 → Nat :=
  let c0_i32_417 : BitVec 32 := 0#32
  let c1_i32_419 : BitVec 32 := 1#32
  let arg9 : BitVec 32 := Scf.iv c0_i32_417 c1_i32_419 k0_t2
  let v1840 : Index := Scalar.indexCast arg9
  let c0_502 : Index := 0#32
  let c0_503 : Index := 0#32
  ![v1840.toNat, 0, 0]
@[reducible] def k0_t3_loop : Scf.Loop 32 :=
  let c0_i32_456 : BitVec 32 := 0#32
  let c64_i32_457 : BitVec 32 := 64#32
  let v1657 : BitVec 32 := Scalar.addi c0_i32_456 c64_i32_457
  let c1_i32_458 : BitVec 32 := 1#32
  ⟨c0_i32_456, v1657, c1_i32_458⟩
def k0_mult3 (k0_t3 : Fin k0_t3_loop.trips) : BitVec 32 :=
  let c0_i32_456 : BitVec 32 := 0#32
  let c1_i32_458 : BitVec 32 := 1#32
  let arg9 : BitVec 32 := Scf.iv c0_i32_456 c1_i32_458 k0_t3
  let c128_i32_494 : BitVec 32 := 128#32
  let v1806 : BitVec 32 := Scalar.muli arg9 c128_i32_494
  v1806
def k0_off10 (k0_t3 : Fin k0_t3_loop.trips) : Fin 2 → Nat :=
  let c0_i32_456 : BitVec 32 := 0#32
  let c1_i32_458 : BitVec 32 := 1#32
  let arg9 : BitVec 32 := Scf.iv c0_i32_456 c1_i32_458 k0_t3
  let c128_i32_494 : BitVec 32 := 128#32
  let v1806 : BitVec 32 := Scalar.muli arg9 c128_i32_494
  let v1807 : BitVec 32 := v1806
  let v1808 : Index := Scalar.indexCast v1807
  let c256_495 : Index := 256#32
  ![v1808.toNat, 256]
def k0_off11 (k0_t3 : Fin k0_t3_loop.trips) : Fin 3 → Nat :=
  let c0_i32_456 : BitVec 32 := 0#32
  let c1_i32_458 : BitVec 32 := 1#32
  let arg9 : BitVec 32 := Scf.iv c0_i32_456 c1_i32_458 k0_t3
  let v1821 : Index := Scalar.indexCast arg9
  let c256_498 : Index := 256#32
  ![v1821.toNat, 0, 256]
def k0_off12 (k0_t3 : Fin k0_t3_loop.trips) : Fin 4 → Nat :=
  let c0_i32_456 : BitVec 32 := 0#32
  let c1_i32_458 : BitVec 32 := 1#32
  let arg9 : BitVec 32 := Scf.iv c0_i32_456 c1_i32_458 k0_t3
  let c2_i32_499 : BitVec 32 := 2#32
  let v1825 : BitVec 32 := Scalar.remsi arg9 c2_i32_499
  let v1827 : Index := Scalar.indexCast v1825
  let c2_i32_500 : BitVec 32 := 2#32
  let v1826 : BitVec 32 := Scalar.divsi arg9 c2_i32_500
  let v1828 : Index := Scalar.indexCast v1826
  let c256_501 : Index := 256#32
  ![v1827.toNat, v1828.toNat, 0, 256]
def k0_off13 (k0_t3 : Fin k0_t3_loop.trips) : Fin 3 → Nat :=
  let c0_i32_456 : BitVec 32 := 0#32
  let c1_i32_458 : BitVec 32 := 1#32
  let arg9 : BitVec 32 := Scf.iv c0_i32_456 c1_i32_458 k0_t3
  let v1840 : Index := Scalar.indexCast arg9
  let c0_502 : Index := 0#32
  let c0_503 : Index := 0#32
  ![v1840.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1x8192 : Shape := ⟨3, ![16, 1, 8192]⟩
abbrev S8192x8192 : Shape := ⟨2, ![8192, 8192]⟩
abbrev S64x8192 : Shape := ⟨2, ![64, 8192]⟩
abbrev S64x16384 : Shape := ⟨2, ![64, 16384]⟩
abbrev S_ : Shape := ⟨0, ![]⟩
abbrev S1x8192x8192 : Shape := ⟨3, ![1, 8192, 8192]⟩
abbrev S2x8192x8192 : Shape := ⟨3, ![2, 8192, 8192]⟩
abbrev S2x64x128x8192 : Shape := ⟨4, ![2, 64, 128, 8192]⟩
abbrev S1x64x8192 : Shape := ⟨3, ![1, 64, 8192]⟩
abbrev S2x64x8192 : Shape := ⟨3, ![2, 64, 8192]⟩
abbrev S2x64x1x8192 : Shape := ⟨4, ![2, 64, 1, 8192]⟩
abbrev S16x64x128 : Shape := ⟨3, ![16, 64, 128]⟩
abbrev S64x16x128 : Shape := ⟨3, ![64, 16, 128]⟩
abbrev S64x2x8192x16 : Shape := ⟨4, ![64, 2, 8192, 16]⟩
abbrev S64x16x8192x2 : Shape := ⟨4, ![64, 16, 8192, 2]⟩
abbrev S16x8192x2 : Shape := ⟨3, ![16, 8192, 2]⟩
abbrev S16x16384 : Shape := ⟨2, ![16, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16x1x8192, .bf16⟩
  | .hbm, ⟨1, _⟩ => ⟨S8192x8192, .i8⟩
  | .hbm, ⟨2, _⟩ => ⟨S64x8192, .i8⟩
  | .hbm, ⟨3, _⟩ => ⟨S64x16384, .bf16⟩
  | .hbm, ⟨4, _⟩ => ⟨S8192x8192, .i32⟩
  | .hbm, ⟨5, _⟩ => ⟨S64x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S_, .i32⟩
  | .hbm, ⟨13, _⟩ => ⟨S8192x8192, .i32⟩
  | .hbm, ⟨14, _⟩ => ⟨S8192x8192, .i32⟩
  | .hbm, ⟨15, _⟩ => ⟨S1x8192x8192, .i32⟩
  | .hbm, ⟨16, _⟩ => ⟨S1x8192x8192, .i32⟩
  | .hbm, ⟨17, _⟩ => ⟨S2x8192x8192, .i32⟩
  | .hbm, ⟨18, _⟩ => ⟨S2x8192x8192, .bf16⟩
  | .hbm, ⟨19, _⟩ => ⟨S2x64x128x8192, .bf16⟩
  | .hbm, ⟨20, _⟩ => ⟨S_, .i32⟩
  | .hbm, ⟨21, _⟩ => ⟨S64x8192, .i32⟩
  | .hbm, ⟨22, _⟩ => ⟨S64x8192, .i32⟩
  | .hbm, ⟨23, _⟩ => ⟨S_, .i32⟩
  | .hbm, ⟨24, _⟩ => ⟨S64x8192, .i32⟩
  | .hbm, ⟨25, _⟩ => ⟨S64x8192, .i32⟩
  | .hbm, ⟨26, _⟩ => ⟨S_, .i32⟩
  | .hbm, ⟨27, _⟩ => ⟨S64x8192, .i32⟩
  | .hbm, ⟨28, _⟩ => ⟨S64x8192, .i32⟩
  | .hbm, ⟨29, _⟩ => ⟨S1x64x8192, .i32⟩
  | .hbm, ⟨30, _⟩ => ⟨S1x64x8192, .i32⟩
  | .hbm, ⟨31, _⟩ => ⟨S2x64x8192, .i32⟩
  | .hbm, ⟨32, _⟩ => ⟨S2x64x8192, .bf16⟩
  | .hbm, ⟨33, _⟩ => ⟨S64x8192, .bf16⟩
  | .hbm, ⟨34, _⟩ => ⟨S64x8192, .bf16⟩
  | .hbm, ⟨35, _⟩ => ⟨S1x64x8192, .bf16⟩
  | .hbm, ⟨36, _⟩ => ⟨S1x64x8192, .bf16⟩
  | .hbm, ⟨37, _⟩ => ⟨S2x64x8192, .bf16⟩
  | .hbm, ⟨38, _⟩ => ⟨S2x64x1x8192, .bf16⟩
  | .hbm, ⟨39, _⟩ => ⟨S2x64x128x8192, .bf16⟩
  | .hbm, ⟨40, _⟩ => ⟨S2x64x128x8192, .bf16⟩
  | .hbm, ⟨41, _⟩ => ⟨S2x64x1x8192, .bf16⟩
  | .hbm, ⟨42, _⟩ => ⟨S2x64x128x8192, .bf16⟩
  | .hbm, ⟨43, _⟩ => ⟨S2x64x128x8192, .bf16⟩
  | .hbm, ⟨44, _⟩ => ⟨S16x64x128, .bf16⟩
  | .hbm, ⟨45, _⟩ => ⟨S64x16x128, .bf16⟩
  | .hbm, ⟨46, _⟩ => ⟨S64x2x8192x16, .f32⟩
  | .hbm, ⟨47, _⟩ => ⟨S64x16x8192x2, .f32⟩
  | .hbm, ⟨48, _⟩ => ⟨S_, .f32⟩
  | .hbm, ⟨49, _⟩ => ⟨S16x8192x2, .f32⟩
  | .hbm, ⟨50, _⟩ => ⟨S16x16384, .f32⟩
  | .hbm, ⟨51, _⟩ => ⟨S16x16384, .bf16⟩
  | _, _ => ⟨S16x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.BRunA0.lean ====
/- The run of the kernel's body at grid point 0 (the point that fills the expanded activations).

   The body first fills the scratch `arg6` in a counted loop and then reads it, inside two further counted loops, at
   offsets that depend on the trip. What the output block holds is therefore found as a function of what `arg6` held
   BEFORE the body (`runA0`, which takes those contents as an argument). The 64 trips of the filling loop write 256
   pieces that tile `arg6` (`xcover`), so the earlier contents do not matter (`xrebase`), and the run at any earlier
   contents leaves what the run over `junk` leaves (`runA0_out`). -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The pieces of the filling loop's 64 trips tile the expanded activations. -/
theorem xcover (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (y : S64x32x256.Idx) :
    ∃ pc ∈ pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st), y ∈ pc.1.set :=
  View.cover_of_tiledL (pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)) S1x16x128.size (by sl_kernel_rfl) y

/-- So what the expanded activations' scratch held before the loop does not matter after it. -/
theorem xrebase (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (g0 : BufTy.Contents (Elt F) arg6.view.ty) :
    arg6.view.writes (Elt F) g0 (pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st))
      = arg6.view.writes (Elt F) arg6.view.junk (pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)) :=
  (harg6.eq_unread rfl).trans
    ((congrArg harg6.unread (View.read_writes_of_cover _ _ _ _ _ (xcover c i arg1 harg1 arg2 harg2 arg3 harg3 arg4 harg4 arg5 harg5 arg6 harg6 arg7 harg7 arg8 harg8 hc0 x0))).trans
      (harg6.eq_unread rfl).symm)

set_option maxHeartbeats 8000000 in
/-- The body at grid point 0, run from inputs at their contents, the expanded activations' scratch at the contents
    `g0`, and the output block and the other scratch at anything: the pieces written to the output block and to
    the expanded activations, with the proof that the body runs to its end and leaves them. -/
noncomputable def runA0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) (g0 : BufTy.Contents (Elt F) arg6.view.ty) :
    Σ' (L4 : List (View.Piece (Elt F) S16x1024 .bf16)), { LS0 : List (View.Piece (Elt F) S64x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (arg6.view.loc (c : Thread nD τ) ↦[arg6.view.set]{fullShare} g0) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, fun E K => ?run⟩
  case run =>
    simp only [cc0__body_eq_skeleton]; unfold cc0__body_skel
    simp only [k0_part41_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, HS0, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]
    · iexists _, _; isplitr; swap; · iexact HS1
      ipureintro; rfl
    iexists _, _; isplitr; swap; · iexact HS2
    ipureintro; rfl

/-- The output pieces do not depend on what the expanded activations' scratch held before. -/
theorem runA0_out (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) (g0 : BufTy.Contents (Elt F) arg6.view.ty) :
    (runA0 c i arg1 harg1 arg2 harg2 arg3 harg3 arg4 harg4 arg5 harg5 arg6 harg6 arg7 harg7 arg8 harg8 hc0 x0 x1 x2 x3 g0).1 = (runA0 c i arg1 harg1 arg2 harg2 arg3 harg3 arg4 harg4 arg5 harg5 arg6 harg6 arg7 harg7 arg8 harg8 hc0 x0 x1 x2 x3 arg6.view.junk).1 := by
  unfold runA0
  dsimp only
  sl_unfold_words
  simp only [xrebase c i arg1 harg1 arg2 harg2 arg3 harg3 arg4 harg4 arg5 harg5 arg6 harg6 arg7 harg7 arg8 harg8 hc0 x0 g0]

/-- Nor do the pieces of the expanded activations. -/
theorem runA0_x (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) (g0 : BufTy.Contents (Elt F) arg6.view.ty) :
    (runA0 c i arg1 harg1 arg2 harg2 arg3 harg3 arg4 harg4 arg5 harg5 arg6 harg6 arg7 harg7 arg8 harg8 hc0 x0 x1 x2 x3 g0).2.1 = (runA0 c i arg1 harg1 arg2 harg2 arg3 harg3 arg4 harg4 arg5 harg5 arg6 harg6 arg7 harg7 arg8 harg8 hc0 x0 x1 x2 x3 arg6.view.junk).2.1 := by
  unfold runA0
  dsimp only

end Cert.Kernel.Gen

end
-- ==== Proof.BRunA.lean ====
/- The kernel's body at grid point 0, from scratch at anything. -/
module

public import proofs.«01_k».proof.Proof.BRunA0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A found pair's property, stated at any equal pair. -/
theorem run_of_eq {α β : Type _} {P : α → β → Prop} (r : Σ' a : α, {b : β // P a b}) {a : α} {b : β}
    (h1 : r.1 = a) (h2 : r.2.1 = b) : P a b := by
  subst h1 h2; exact r.2.2

/-- Holding a memref at some contents is holding its buffer at some contents. -/
theorem owns_opened (c : Dev nD) {s : Shape} {e : EltTy} (a : Memref sig .tc .vmem s e) (d : Vec F s e) :
    (owns (c : Thread nD τ) a fullShare d : sProp 𝕄)
      ⊢ iprop(∃ f, a.view.loc (c : Thread nD τ) ↦[a.view.set]{fullShare} f) := by
  unfold owns
  iintro ⟨%f, -, H⟩
  iexists _; iexact H

set_option maxHeartbeats 4000000 in
/-- The body at grid point 0 from scratch at anything: the pieces `runA0` finds over `junk`, with the proof that the
    body leaves them. -/
noncomputable def kernelRun0_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) :
    Σ' (L4 : List (View.Piece (Elt F) S16x1024 .bf16)), { LS0 : List (View.Piece (Elt F) S64x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨(runA0 c i arg1 harg1 arg2 harg2 arg3 harg3 arg4 harg4 arg5 harg5 arg6 harg6 arg7 harg7 arg8 harg8 hc0 x0 x1 x2 x3 arg6.view.junk).1, (runA0 c i arg1 harg1 arg2 harg2 arg3 harg3 arg4 harg4 arg5 harg5 arg6 harg6 arg7 harg7 arg8 harg8 hc0 x0 x1 x2 x3 arg6.view.junk).2.1, fun E K => ?run⟩
  case run =>
    iintro ⟨H0, H1, H2, H3, H4, ⟨%ds0, HS0⟩, HS1, HS2, Hk⟩
    icases (owns_opened c arg6 ds0) $$ HS0 with ⟨%fs0, HS0⟩
    have hrun := run_of_eq (runA0 c i arg1 harg1 arg2 harg2 arg3 harg3 arg4 harg4 arg5 harg5 arg6 harg6 arg7 harg7 arg8 harg8 hc0 x0 x1 x2 x3 fs0) (runA0_out c i arg1 harg1 arg2 harg2 arg3 harg3 arg4 harg4 arg5 harg5 arg6 harg6 arg7 harg7 arg8 harg8 hc0 x0 x1 x2 x3 fs0) (runA0_x c i arg1 harg1 arg2 harg2 arg3 harg3 arg4 harg4 arg5 harg5 arg6 harg6 arg7 harg7 arg8 harg8 hc0 x0 x1 x2 x3 fs0) E K
    iapply hrun
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iexact Hk

end Cert.Kernel.Gen

end
-- ==== Proof.BRunB.lean ====
/- The run of the kernel's body at the grid points after the first, which find the expanded activations in the
   scratch `arg6` as the point before left them. -/
module

public import proofs.«01_k».proof.Proof.BRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1140000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) :
    Σ' (L4 : List (View.Piece (Elt F) S16x1024 .bf16)), { LS0 : List (View.Piece (Elt F) S64x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, [], fun E K => ?run⟩
  case run =>
    simp only [cc0__body_eq_skeleton]; unfold cc0__body_skel
    simp only [k0_part41_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]
    · iexists _, _; isplitr; swap; · iexact HS1
      ipureintro; rfl
    iexists _, _; isplitr; swap; · iexact HS2
    ipureintro; rfl

end Cert.Kernel.Gen

end
-- ==== Proof.BFrame.lean ====
/- The frame certificate of the kernel over the two runs of its body (`BRunA`, `BRunB`): what the output
   blocks and the carried scratch hold point by point, the pipeline's proof data, the body obligation, the run and
   the frame claim. -/
module

public import proofs.«01_k».proof.Proof.BRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (8 stores of `S16x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) (y : S16x1024.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S16x128.size (by sl_kernel_rfl) y

/-- What case A leaves in output 4's staging buffer: its pieces read back over junk. -/
def out0_A_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) : Vec F S16x1024 .bf16 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- Case A's pieces for scratch `arg6`, which the kernel carries between points, cover it: 256 pieces of `S1x16x128` tiling it (Lib/Ring.lean `Piece.tiledL`). -/
theorem scover0_A_0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) (y : S64x32x256.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S1x16x128.size (by sl_kernel_rfl) y

/-- What case A leaves in scratch `arg6`: its pieces read back over junk. -/
def sout0_A_0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : cond0_0 i)
    (x0 : Vec F S16x8192 .bf16) (x1 : Vec F S8192x512 .i8) (x2 : Vec F S64x512 .i8) (x3 : Vec F S64x1024 .bf16) : Vec F S64x32x256 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.1)

/-- Case B's pieces for output 4 tile its block (8 stores of `S16x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) (y : S16x1024.Idx) :
    ∃ pc ∈ (kernelRun0_B c i arg1 harg1 arg2 harg2 arg3 harg3 arg4 harg4 arg5 harg5 arg6 harg6 arg7 harg7 arg8 harg8 hc0 x0 x1 x2 x3 xs0).1, y ∈ pc.1.set :=
  View.cover_of_tiledL (kernelRun0_B c i arg1 harg1 arg2 harg2 arg3 harg3 arg4 harg4 arg5 harg5 arg6 harg6 arg7 harg7 arg8 harg8 hc0 x0 x1 x2 x3 xs0).1 S16x128.size (by sl_kernel_rfl) y

/-- What case B leaves in output 4's staging buffer: its pieces read back over junk. -/
def out0_B_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) : Vec F S16x1024 .bf16 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0).1)

/-- Case B stores nothing into scratch `arg6`: it holds what the point before left. -/
def sout0_B_0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x512 .i32) (harg7 : arg7.IsWhole) (arg8 : Memref sig .tc .vmem S2x32x512 .i32) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) : Vec F S64x32x256 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x1024 .bf16 × Vec F S64x32x256 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_4 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_4 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.IRunA0.lean ====
/- The run of the idealized kernel's body at grid point 0 (the point that fills the expanded activations).

   The body first fills the scratch `arg6` in a counted loop and then reads it, inside two further counted loops, at
   offsets that depend on the trip. What the output block holds is therefore found as a function of what `arg6` held
   BEFORE the body (`runA0`, which takes those contents as an argument). The 64 trips of the filling loop write 256
   pieces that tile `arg6` (`xcover`), so the earlier contents do not matter (`xrebase`), and the run at any earlier
   contents leaves what the run over `junk` leaves (`runA0_out`). -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of the filling loop's 64 trips tile the expanded activations. -/
theorem xcover (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (y : S64x32x256.Idx) :
    ∃ pc ∈ pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st), y ∈ pc.1.set :=
  View.cover_of_tiledL (pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)) S1x16x128.size (by sl_kernel_rfl) y

/-- So what the expanded activations' scratch held before the loop does not matter after it. -/
theorem xrebase (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (g0 : BufTy.Contents (Elt F) arg6.view.ty) :
    arg6.view.writes (Elt F) g0 (pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st))
      = arg6.view.writes (Elt F) arg6.view.junk (pb_k0_t1 (F := F) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)) :=
  (harg6.eq_unread rfl).trans
    ((congrArg harg6.unread (View.read_writes_of_cover _ _ _ _ _ (xcover c i arg1 harg1 arg2 harg2 arg3 harg3 arg4 harg4 arg5 harg5 arg6 harg6 arg7 harg7 arg8 harg8 hc0 x0))).trans
      (harg6.eq_unread rfl).symm)

set_option maxHeartbeats 8000000 in
/-- The body at grid point 0, run from inputs at their contents, the expanded activations' scratch at the contents
    `g0`, and the output block and the other scratch at anything: the pieces written to the output block and to
    the expanded activations, with the proof that the body runs to its end and leaves them. -/
noncomputable def runA0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) (g0 : BufTy.Contents (Elt F) arg6.view.ty) :
    Σ' (L4 : List (View.Piece (Elt F) S16x1024 .bf16)), { LS0 : List (View.Piece (Elt F) S64x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (arg6.view.loc (c : Thread nD τ) ↦[arg6.view.set]{fullShare} g0) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, fun E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%d4, %f4, -, H4⟩, HS0, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]
    · iexists _, _; isplitr; swap; · iexact HS1
      ipureintro; rfl
    iexists _, _; isplitr; swap; · iexact HS2
    ipureintro; rfl

/-- The output pieces do not depend on what the expanded activations' scratch held before. -/
theorem runA0_out (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) (g0 : BufTy.Contents (Elt F) arg6.view.ty) :
    (runA0 c i arg1 harg1 arg2 harg2 arg3 harg3 arg4 harg4 arg5 harg5 arg6 harg6 arg7 harg7 arg8 harg8 hc0 x0 x1 x2 x3 g0).1 = (runA0 c i arg1 harg1 arg2 harg2 arg3 harg3 arg4 harg4 arg5 harg5 arg6 harg6 arg7 harg7 arg8 harg8 hc0 x0 x1 x2 x3 arg6.view.junk).1 := by
  unfold runA0
  dsimp only
  sl_unfold_words
  simp only [xrebase c i arg1 harg1 arg2 harg2 arg3 harg3 arg4 harg4 arg5 harg5 arg6 harg6 arg7 harg7 arg8 harg8 hc0 x0 g0]

/-- Nor do the pieces of the expanded activations. -/
theorem runA0_x (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) (g0 : BufTy.Contents (Elt F) arg6.view.ty) :
    (runA0 c i arg1 harg1 arg2 harg2 arg3 harg3 arg4 harg4 arg5 harg5 arg6 harg6 arg7 harg7 arg8 harg8 hc0 x0 x1 x2 x3 g0).2.1 = (runA0 c i arg1 harg1 arg2 harg2 arg3 harg3 arg4 harg4 arg5 harg5 arg6 harg6 arg7 harg7 arg8 harg8 hc0 x0 x1 x2 x3 arg6.view.junk).2.1 := by
  unfold runA0
  dsimp only

end Cert.KernelIdeal.Gen

end
-- ==== Proof.IRunA.lean ====
/- The idealized kernel's body at grid point 0, from scratch at anything. -/
module

public import proofs.«01_k».proof.Proof.IRunA0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A found pair's property, stated at any equal pair. -/
theorem run_of_eq {α β : Type _} {P : α → β → Prop} (r : Σ' a : α, {b : β // P a b}) {a : α} {b : β}
    (h1 : r.1 = a) (h2 : r.2.1 = b) : P a b := by
  subst h1 h2; exact r.2.2

/-- Holding a memref at some contents is holding its buffer at some contents. -/
theorem owns_opened (c : Dev nD) {s : Shape} {e : EltTy} (a : Memref sig .tc .vmem s e) (d : Vec F s e) :
    (owns (c : Thread nD τ) a fullShare d : sProp 𝕄)
      ⊢ iprop(∃ f, a.view.loc (c : Thread nD τ) ↦[a.view.set]{fullShare} f) := by
  unfold owns
  iintro ⟨%f, -, H⟩
  iexists _; iexact H

set_option maxHeartbeats 4000000 in
/-- The body at grid point 0 from scratch at anything: the pieces `runA0` finds over `junk`, with the proof that the
    body leaves them. -/
noncomputable def kernelRun0_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) :
    Σ' (L4 : List (View.Piece (Elt F) S16x1024 .bf16)), { LS0 : List (View.Piece (Elt F) S64x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨(runA0 c i arg1 harg1 arg2 harg2 arg3 harg3 arg4 harg4 arg5 harg5 arg6 harg6 arg7 harg7 arg8 harg8 hc0 x0 x1 x2 x3 arg6.view.junk).1, (runA0 c i arg1 harg1 arg2 harg2 arg3 harg3 arg4 harg4 arg5 harg5 arg6 harg6 arg7 harg7 arg8 harg8 hc0 x0 x1 x2 x3 arg6.view.junk).2.1, fun E K => ?run⟩
  case run =>
    iintro ⟨H0, H1, H2, H3, H4, ⟨%ds0, HS0⟩, HS1, HS2, Hk⟩
    icases (owns_opened c arg6 ds0) $$ HS0 with ⟨%fs0, HS0⟩
    have hrun := run_of_eq (runA0 c i arg1 harg1 arg2 harg2 arg3 harg3 arg4 harg4 arg5 harg5 arg6 harg6 arg7 harg7 arg8 harg8 hc0 x0 x1 x2 x3 fs0) (runA0_out c i arg1 harg1 arg2 harg2 arg3 harg3 arg4 harg4 arg5 harg5 arg6 harg6 arg7 harg7 arg8 harg8 hc0 x0 x1 x2 x3 fs0) (runA0_x c i arg1 harg1 arg2 harg2 arg3 harg3 arg4 harg4 arg5 harg5 arg6 harg6 arg7 harg7 arg8 harg8 hc0 x0 x1 x2 x3 fs0) E K
    iapply hrun
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iexact Hk

end Cert.KernelIdeal.Gen

end
-- ==== Proof.IRunB.lean ====
/- The run of the idealized kernel's body at the grid points after the first, which find the expanded activations in the
   scratch `arg6` as the point before left them. -/
module

public import proofs.«01_k».proof.Proof.IRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2184000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) :
    Σ' (L4 : List (View.Piece (Elt F) S16x1024 .bf16)), { LS0 : List (View.Piece (Elt F) S64x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ (∃ d, owns (c : Thread nD τ) arg7 fullShare d) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, [], fun E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]
    · iexists _, _; isplitr; swap; · iexact HS1
      ipureintro; rfl
    iexists _, _; isplitr; swap; · iexact HS2
    ipureintro; rfl

end Cert.KernelIdeal.Gen

end
-- ==== Proof.IFrame.lean ====
/- The frame certificate of the idealized kernel over the two runs of its body (`IRunA`, `IRunB`): what the output
   blocks and the carried scratch hold point by point, the pipeline's proof data, the body obligation, the run and
   the frame claim. -/
module

public import proofs.«01_k».proof.Proof.IRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (8 stores of `S16x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) (y : S16x1024.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S16x128.size (by sl_kernel_rfl) y

/-- What case A leaves in output 4's staging buffer: its pieces read back over junk. -/
def out0_A_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) : Vec F S16x1024 .bf16 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- Case A's pieces for scratch `arg6`, which the kernel carries between points, cover it: 256 pieces of `S1x16x128` tiling it (Lib/Ring.lean `Piece.tiledL`). -/
theorem scover0_A_0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) (y : S64x32x256.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S1x16x128.size (by sl_kernel_rfl) y

/-- What case A leaves in scratch `arg6`: its pieces read back over junk. -/
def sout0_A_0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i)
    (x0 : Vec F S16x8192 .bf16) (x1 : Vec F S8192x512 .i8) (x2 : Vec F S64x512 .i8) (x3 : Vec F S64x1024 .bf16) : Vec F S64x32x256 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.1)

/-- Case B's pieces for output 4 tile its block (8 stores of `S16x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) (y : S16x1024.Idx) :
    ∃ pc ∈ (kernelRun0_B c i arg1 harg1 arg2 harg2 arg3 harg3 arg4 harg4 arg5 harg5 arg6 harg6 arg7 harg7 arg8 harg8 hc0 x0 x1 x2 x3 xs0).1, y ∈ pc.1.set :=
  View.cover_of_tiledL (kernelRun0_B c i arg1 harg1 arg2 harg2 arg3 harg3 arg4 harg4 arg5 harg5 arg6 harg6 arg7 harg7 arg8 harg8 hc0 x0 x1 x2 x3 xs0).1 S16x128.size (by sl_kernel_rfl) y

/-- What case B leaves in output 4's staging buffer: its pieces read back over junk. -/
def out0_B_4 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) : Vec F S16x1024 .bf16 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0).1)

/-- Case B stores nothing into scratch `arg6`: it holds what the point before left. -/
def sout0_B_0 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i)
    (x0 : Vec F S16x8192 .bf16) (x1 : Vec F S8192x512 .i8) (x2 : Vec F S64x512 .i8) (x3 : Vec F S64x1024 .bf16) (xs0 : Vec F S64x32x256 .bf16) : Vec F S64x32x256 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x1024 .bf16 × Vec F S64x32x256 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 16 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_4 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_4 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Claims.lean ====
/- The claims that need no value: the three frames, and the ledger of the idealization. -/
module

public import proofs.«01_k».proof.Defs
public import proofs.«01_k».proof.Proof.BFrame
public import proofs.«01_k».proof.Proof.IFrame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

/-- The kernel runs and leaves its arguments as they were. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference, which declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization's ledger: the two scratch arrays of words read as bfloat16 pairs, the one zero fill, and the
    reading of words as pairs of rows at each shape. -/
theorem preserves : Cert.preserves_Kernel_KernelIdeal :=
  open Cert.KernelIdeal IdealRules.bf16_pair in
  ⟨bufferStatement S64x2x512 S64x1x512, bufferStatement S2x32x2x512 S2x32x1x512, statement S16x128 S8x128,
    selectZeroStatement S8x128, statement S128x512 S64x512, statement S64x2x512 S64x1x512, statement S64x128 S32x128,
    statement S1x8x2x128 S1x8x1x128, statement S1x2x256 S1x1x256, statement S16x256 S8x256,
    statement S1x1x2x256 S1x1x1x256⟩

end Cert.Proof

end
-- ==== Proof.Words.lean ====
/- Reading the kernel's word operations at an index, at exact arithmetic: a word array is a pair of row arrays (the even
   and the odd rows), `interleaveRows` puts the pair back into rows, and a lane gather on the rows reads every row at the
   lane its index names. -/
module

public import proofs.«01_k».proof.Proof.Gen.KernelIdeal.Skeleton
public import Idealize.ShloMosaic.Lib.Pointwise
public import Idealize.ShloMosaic.Lib.Bf16PairInverse

@[expose] public section

set_option maxRecDepth 16384

noncomputable section

namespace Cert.KernelIdeal.Val

open Cert.KernelIdeal Cert.KernelIdeal.Gen Idealize.ShloMosaic

/-- A pair of row arrays interleaved, rank 2, read at a row and a lane. -/
theorem il2 {α : Type} {n m n' : Nat} (lo hi : (⟨2, ![n, m]⟩ : Shape).Idx → α)
    (h : (⟨2, ![n', m]⟩ : Shape).Bitcasts 16 ⟨2, ![n, m]⟩ 32) (r : Fin n') (l : Fin m) (q : Fin n) (hq : q.val = r.val / 2) :
    interleaveRows ⟨2, ![n', m]⟩ lo hi h (ix2 r l) = if r.val % 2 = 0 then lo (ix2 q l) else hi (ix2 q l) := by
  unfold interleaveRows
  dsimp only
  have e : ∀ (f g : (⟨2, ![n, m]⟩ : Shape).Idx), (f 0).val = (g 0).val → (f 1).val = (g 1).val → f = g := by
    intro f g h0 h1
    funext a
    match a with
    | ⟨0, _⟩ => exact Fin.ext h0
    | ⟨1, _⟩ => exact Fin.ext h1
  have hc : Shape.row (⟨2, ![n', m]⟩ : Shape) (ix2 r l) = r.val := rfl
  rw [hc]
  split
  · exact congrArg lo (e _ _ hq.symm rfl)
  · exact congrArg hi (e _ _ hq.symm rfl)

/-- The same at rank 3: the rows are the middle axis. -/
theorem il3 {α : Type} {k n m n' : Nat} (lo hi : (⟨3, ![k, n, m]⟩ : Shape).Idx → α)
    (h : (⟨3, ![k, n', m]⟩ : Shape).Bitcasts 16 ⟨3, ![k, n, m]⟩ 32) (g : Fin k) (r : Fin n') (l : Fin m) (q : Fin n) (hq : q.val = r.val / 2) :
    interleaveRows ⟨3, ![k, n', m]⟩ lo hi h (ix3 g r l) = if r.val % 2 = 0 then lo (ix3 g q l) else hi (ix3 g q l) := by
  unfold interleaveRows
  dsimp only
  have e : ∀ (f g : (⟨3, ![k, n, m]⟩ : Shape).Idx), (f 0).val = (g 0).val → (f 1).val = (g 1).val → (f 2).val = (g 2).val → f = g := by
    intro f g h0 h1 h2
    funext a
    match a with
    | ⟨0, _⟩ => exact Fin.ext h0
    | ⟨1, _⟩ => exact Fin.ext h1
    | ⟨2, _⟩ => exact Fin.ext h2
  have hc : Shape.row (⟨3, ![k, n', m]⟩ : Shape) (ix3 g r l) = r.val := rfl
  rw [hc]
  split
  · exact congrArg lo (e _ _ rfl hq.symm rfl)
  · exact congrArg hi (e _ _ rfl hq.symm rfl)

/-- The same at rank 4. -/
theorem il4 {α : Type} {k₁ k₂ n m n' : Nat} (lo hi : (⟨4, ![k₁, k₂, n, m]⟩ : Shape).Idx → α)
    (h : (⟨4, ![k₁, k₂, n', m]⟩ : Shape).Bitcasts 16 ⟨4, ![k₁, k₂, n, m]⟩ 32) (a : Fin k₁) (b : Fin k₂) (r : Fin n') (l : Fin m)
    (q : Fin n) (hq : q.val = r.val / 2) :
    interleaveRows ⟨4, ![k₁, k₂, n', m]⟩ lo hi h (ix4 a b r l)
      = if r.val % 2 = 0 then lo (ix4 a b q l) else hi (ix4 a b q l) := by
  unfold interleaveRows
  dsimp only
  have e : ∀ (f g : (⟨4, ![k₁, k₂, n, m]⟩ : Shape).Idx), (f 0).val = (g 0).val → (f 1).val = (g 1).val → (f 2).val = (g 2).val →
      (f 3).val = (g 3).val → f = g := by
    intro f g h0 h1 h2 h3
    funext a
    match a with
    | ⟨0, _⟩ => exact Fin.ext h0
    | ⟨1, _⟩ => exact Fin.ext h1
    | ⟨2, _⟩ => exact Fin.ext h2
    | ⟨3, _⟩ => exact Fin.ext h3
  have hc : Shape.row (⟨4, ![k₁, k₂, n', m]⟩ : Shape) (ix4 a b r l) = r.val := rfl
  rw [hc]
  split
  · exact congrArg lo (e _ _ rfl rfl hq.symm rfl)
  · exact congrArg hi (e _ _ rfl rfl hq.symm rfl)

/-- The lane gather of the kernel on 16 rows: the lane indices of 8 rows are laid out twice, wrapped where negative, and
    every row is read at them. -/
def GATHER (v : FVec Ideal S16x128 .bf16) (idx : IVec S8x128 32) : FVec Ideal S16x128 .bf16 :=
  truncf .bf16 (dynamicGather 1 (extf .f32 v bitsLt_bf16_f32)
    (shapeCast S16x128 (shapeCast S16x128x1
      (select (cmpi .slt (concatenate S16x128 0 [⟨S8x128, idx⟩, ⟨S8x128, idx⟩] concatenates_S8x128_S8x128_S16x128_d0)
          (broadcast S16x128 0#32))
        (addi (concatenate S16x128 0 [⟨S8x128, idx⟩, ⟨S8x128, idx⟩] concatenates_S8x128_S8x128_S16x128_d0) (broadcast S16x128 128#32))
        (concatenate S16x128 0 [⟨S8x128, idx⟩, ⟨S8x128, idx⟩] concatenates_S8x128_S8x128_S16x128_d0))
      shapeCasts_S16x128_S16x128x1) shapeCasts_S16x128x1_S16x128)) bitsLt_bf16_f32

/-- Where the lane index is a lane, the wrap leaves it. -/
theorem wrap_lane : ∀ f : Fin 128,
    (Scalar.select (IntOp.cmpi .slt (BitVec.ofNat 32 f.val) 0#32) (IntOp.addi (BitVec.ofNat 32 f.val) 128#32) (BitVec.ofNat 32 f.val)).toNat % 128
      = f.val := by decide +kernel

/-- The gather reads row `r` at the lane `f l`, where the lane index is `f l` in every row. -/
theorem gather_apply (v : FVec Ideal S16x128 .bf16) (idx : IVec S8x128 32) (f : Fin 128 → Fin 128)
    (hf : ∀ (r : Fin 8) (l : Fin 128), idx (ix2 r l) = BitVec.ofNat 32 (f l).val) (r : Fin 16) (l : Fin 128) :
    GATHER v idx (ix2 r l) = v (ix2 r (f l)) := by
  pointwise [GATHER]
  simp only [hf, dite_eq_ite, ite_self]
  exact congrArg v (congrArg (ix2 r) (Fin.ext (wrap_lane (f l))))

/-- The gather on the words, a pair of row arrays: each half is read at the lane `f l`. -/
theorem gather_lo (lo hi : FVec Ideal S8x128 .bf16) (idx : IVec S8x128 32) (f : Fin 128 → Fin 128)
    (hf : ∀ (r : Fin 8) (l : Fin 128), idx (ix2 r l) = BitVec.ofNat 32 (f l).val) (r : Fin 8) (l : Fin 128) :
    rowsOfParity 0 S8x128 (GATHER (interleaveRows S16x128 lo hi bitcasts_S16x128_w16_S8x128_w32) idx) bitcasts_S16x128_w16_S8x128_w32
      (ix2 r l) = lo (ix2 r (f l)) := by
  pointwise
  rw [gather_apply _ idx f hf, il2 _ _ _ _ _ r (by simp)]
  simp

/-- A gather from interleaved rows, of its odd rows, at an index. -/
theorem gather_hi (lo hi : FVec Ideal S8x128 .bf16) (idx : IVec S8x128 32) (f : Fin 128 → Fin 128)
    (hf : ∀ (r : Fin 8) (l : Fin 128), idx (ix2 r l) = BitVec.ofNat 32 (f l).val) (r : Fin 8) (l : Fin 128) :
    rowsOfParity 1 S8x128 (GATHER (interleaveRows S16x128 lo hi bitcasts_S16x128_w16_S8x128_w32) idx) bitcasts_S16x128_w16_S8x128_w32
      (ix2 r l) = hi (ix2 r (f l)) := by
  pointwise
  rw [gather_apply _ idx f hf, il2 _ _ _ _ _ r (by simp; omega)]
  simp

/-! ## The lane indices and the lane masks -/

/-- The lane of each entry. -/
def LANE : IVec S8x128 32 := iota .tc S8x128 32 [1] iota_S8x128_d1_w32

/-- The lane number at an index. -/
theorem lane_apply (r : Fin 8) (l : Fin 128) : LANE (ix2 r l) = BitVec.ofNat 32 l.val := by
  pointwise [LANE]

/-- Half the lane, from lane 64 on where `b` is 64. -/
def HALF (b : BitVec 32) : IVec S8x128 32 := addi (shrsi LANE (broadcast S8x128 1#32)) (broadcast S8x128 b)

/-- Twice the lane, plus `b`, around the 128 lanes. -/
def TWICE (b : BitVec 32) : IVec S8x128 32 :=
  andi (addi (muli (broadcast S8x128 2#32) LANE) (broadcast S8x128 b)) (broadcast S8x128 127#32)

/-- The even lanes. -/
def EVEN : IVec S8x128 1 := cmpi .eq (andi LANE (broadcast S8x128 1#32)) (broadcast S8x128 0#32)

/-- The lanes below 64. -/
def LOW : IVec S8x128 1 := cmpi .slt LANE (broadcast S8x128 64#32)

/-- Half a lane number, and 64 more in the second half, as a word. -/
theorem half_word (h : Fin 2) : ∀ l : Fin 128,
    IntOp.addi (IntOp.shrsi .vector (BitVec.ofNat 32 l.val) 1#32) (BitVec.ofNat 32 (64 * h.val)) = BitVec.ofNat 32 (l.val / 2 + 64 * h.val) := by
  revert h; decide +kernel

/-- The gather index that takes each of 64 lanes twice, at a lane. -/
theorem half_apply (h : Fin 2) (r : Fin 8) (l : Fin 128) :
    HALF (BitVec.ofNat 32 (64 * h.val)) (ix2 r l) = BitVec.ofNat 32 (⟨l.val / 2 + 64 * h.val, by omega⟩ : Fin 128).val := by
  pointwise [HALF]
  simp only [lane_apply]
  exact half_word h l

/-- Twice a lane number and a parity, modulo 128, as a word. -/
theorem twice_word (p : Fin 2) : ∀ l : Fin 128,
    IntOp.andi (IntOp.addi (IntOp.muli 2#32 (BitVec.ofNat 32 l.val)) (BitVec.ofNat 32 p.val)) 127#32 = BitVec.ofNat 32 ((2 * l.val + p.val) % 128) := by
  revert p; decide +kernel

/-- The gather index that takes the lanes of one parity, at a lane. -/
theorem twice_apply (p : Fin 2) (r : Fin 8) (l : Fin 128) :
    TWICE (BitVec.ofNat 32 p.val) (ix2 r l) = BitVec.ofNat 32 (⟨(2 * l.val + p.val) % 128, by omega⟩ : Fin 128).val := by
  pointwise [TWICE]
  simp only [lane_apply]
  exact twice_word p l

/-- The parity test on a word. -/
theorem even_word : ∀ l : Fin 128, IntOp.cmpi .eq (IntOp.andi (BitVec.ofNat 32 l.val) 1#32) 0#32 = if l.val % 2 = 0 then 1#1 else 0#1 := by
  decide +kernel

/-- The mask of even lanes at an index. -/
theorem even_apply (r : Fin 8) (l : Fin 128) : EVEN (ix2 r l) = if l.val % 2 = 0 then 1#1 else 0#1 := by
  pointwise [EVEN]
  simp only [lane_apply]
  exact even_word l

/-- The comparison of a lane number with 64, as words. -/
theorem low_word : ∀ l : Fin 128, IntOp.cmpi .slt (BitVec.ofNat 32 l.val) 64#32 = if l.val < 64 then 1#1 else 0#1 := by
  decide +kernel

/-- The mask of the first 64 lanes at an index. -/
theorem low_apply (r : Fin 8) (l : Fin 128) : LOW (ix2 r l) = if l.val < 64 then 1#1 else 0#1 := by
  pointwise [LOW]
  simp only [lane_apply]
  exact low_word l

/-- A selection by a mask bit that tells a condition. -/
theorem sel_ite {α : Type} (c : Prop) [Decidable c] (a b : α) : Scalar.select (if c then 1#1 else 0#1) a b = if c then a else b := by
  by_cases h : c <;> simp [h, Scalar.select]

end Cert.KernelIdeal.Val

end
-- ==== Proof.OutPay.lean ====
/- What the body stores into the output block, read at an index, at exact arithmetic: the accumulator's upper and lower
   halves alternate along the columns. -/
module

public import proofs.«01_k».proof.Proof.Words

@[expose] public section

set_option maxRecDepth 16384

noncomputable section

namespace Cert.KernelIdeal.Val

open Cert.KernelIdeal Cert.KernelIdeal.Gen Idealize.ShloMosaic

/-- The slice of half the rows lies in the accumulator. -/
theorem slices_half : ∀ h : Fin 2, S32x256.Slices ![16 * h.val, 0] S16x256 := by decide

/-- The slice of 128 lanes lies in the half. -/
theorem slices_lanes : ∀ c : Fin 2, S8x256.Slices ![0, 128 * c.val] S8x128 := by decide

/-- Of the half `h` of an accumulator's rows: the rows of parity `q`, in the column block `c`. -/
def OROW (h q c : Fin 2) (v : FVec Ideal S32x256 .f32) : FVec Ideal S8x128 .bf16 :=
  extractStridedSlice S8x128 ![0, 128 * c.val]
    (rowsOfParity q S8x256 (truncf .bf16 (extractStridedSlice S16x256 ![16 * h.val, 0] v (slices_half h)) bitsLt_bf16_f32)
      bitcasts_S16x256_w16_S8x256_w32) (slices_lanes c)

/-- Those rows with half of their columns spread over the lanes. -/
def OGW (h p c : Fin 2) (b : BitVec 32) (v : FVec Ideal S32x256 .f32) : FVec Ideal S8x128 .bf16 :=
  rowsOfParity p S8x128 (GATHER (interleaveRows S16x128 (OROW h 0 c v) (OROW h 1 c v) bitcasts_S16x128_w16_S8x128_w32) (HALF b))
    bitcasts_S16x128_w16_S8x128_w32

/-- One stored block of 128 columns. -/
def OPAY (c : Fin 2) (b : BitVec 32) (v : FVec Ideal S32x256 .f32) : FVec Ideal S16x128 .bf16 :=
  interleaveRows S16x128 (select EVEN (OGW 0 0 c b v) (OGW 1 0 c b v)) (select EVEN (OGW 0 1 c b v) (OGW 1 1 c b v))
    bitcasts_S16x128_w16_S8x128_w32

/-- The rows of one parity of half an accumulator, at an index. -/
theorem orow_apply (h q c : Fin 2) (v : FVec Ideal S32x256 .f32) (k : Fin 8) (l : Fin 128) :
    OROW h q c v (ix2 k l) = v (ix2 ⟨16 * h.val + (2 * k.val + q.val), by omega⟩ ⟨128 * c.val + l.val, by omega⟩) := by
  fin_cases q <;> · unfold OROW; pointwise

/-- The gathered rows, at an index. -/
theorem ogw_apply (h p c s : Fin 2) (v : FVec Ideal S32x256 .f32) (k : Fin 8) (l : Fin 128) :
    OGW h p c (BitVec.ofNat 32 (64 * s.val)) v (ix2 k l)
      = v (ix2 ⟨16 * h.val + (2 * k.val + p.val), by omega⟩ ⟨128 * c.val + (l.val / 2 + 64 * s.val), by omega⟩) := by
  unfold OGW
  fin_cases p
  · exact (gather_lo _ _ _ _ (half_apply s) k l).trans (orow_apply h 0 c v k _)
  · exact (gather_hi _ _ _ _ (half_apply s) k l).trans (orow_apply h 1 c v k _)

/-- What is stored of a column block and half: even columns are rows 0 to 15 of the accumulator, odd ones rows 16 to 31. -/
theorem opay_apply (c s : Fin 2) (v : FVec Ideal S32x256 .f32) (r : Fin 16) (l : Fin 128) :
    OPAY c (BitVec.ofNat 32 (64 * s.val)) v (ix2 r l)
      = v (ix2 ⟨16 * (l.val % 2) + r.val, by omega⟩ ⟨128 * c.val + (l.val / 2 + 64 * s.val), by omega⟩) := by
  unfold OPAY
  rw [il2 _ _ _ r l ⟨r.val / 2, by omega⟩ (by show r.val / 2 = _; omega)]
  unfold select
  rw [even_apply, sel_ite, sel_ite, ogw_apply, ogw_apply, ogw_apply, ogw_apply]
  by_cases hr : r.val % 2 = 0
  · rw [if_pos hr]
    by_cases hl : l.val % 2 = 0
    · rw [if_pos hl]
      refine congrArg (fun q => v (ix2 q _)) (Fin.ext ?_)
      show 16 * 0 + (2 * (r.val / 2) + 0) = 16 * (l.val % 2) + r.val; omega
    · rw [if_neg hl]
      refine congrArg (fun q => v (ix2 q _)) (Fin.ext ?_)
      show 16 * 1 + (2 * (r.val / 2) + 0) = 16 * (l.val % 2) + r.val; omega
  · rw [if_neg hr]
    by_cases hl : l.val % 2 = 0
    · rw [if_pos hl]
      refine congrArg (fun q => v (ix2 q _)) (Fin.ext ?_)
      show 16 * 0 + (2 * (r.val / 2) + 1) = 16 * (l.val % 2) + r.val; omega
    · rw [if_neg hl]
      refine congrArg (fun q => v (ix2 q _)) (Fin.ext ?_)
      show 16 * 1 + (2 * (r.val / 2) + 1) = 16 * (l.val % 2) + r.val; omega

/-! ## The stored payloads in these words -/

section
variable (v : FVec Ideal S32x256 .f32)

/-- The payload of column block 0, half 0, in these terms. -/
theorem pay363_eq : k0_pay363 (F := Ideal) k0_pay352 (k0_pay359 v) (k0_pay360 v) (k0_pay361 v) k0_pay362
    = OPAY 0 (BitVec.ofNat 32 (64 * (0 : Fin 2).val)) v := rfl
/-- The payload of column block 0, half 1, in these terms. -/
theorem pay364_eq : k0_pay364 (F := Ideal) (iota .tc S8x128 32 [1] iota_S8x128_d1_w32) k0_pay352 (k0_pay353 v) (k0_pay354 v) (k0_pay355 v) (k0_pay356 v)
    = OPAY 0 (BitVec.ofNat 32 (64 * (1 : Fin 2).val)) v := rfl

/-- The payload of column block 1, half 0, in these terms. -/
theorem pay369_eq : k0_pay369 (F := Ideal) (iota .tc S8x128 32 [1] iota_S8x128_d1_w32) k0_pay352 (k0_pay365 (k0_pay347 v)) (k0_pay366 (k0_pay348 v))
      (k0_pay367 (k0_pay350 v)) (k0_pay368 (k0_pay351 v)) = OPAY 1 (BitVec.ofNat 32 (64 * (0 : Fin 2).val)) v := rfl

end

end Cert.KernelIdeal.Val

end
-- ==== Proof.SPay.lean ====
/- What the body stores into the scratch of scales, read at an index, at exact arithmetic: the even and the odd columns of
   the scales come apart, and so do the even and the odd rows. -/
module

public import proofs.«01_k».proof.Proof.Words

@[expose] public section

set_option maxRecDepth 16384

noncomputable section

namespace Cert.KernelIdeal.Val

open Cert.KernelIdeal Cert.KernelIdeal.Gen Idealize.ShloMosaic

/-- Eight rows of 32, from row `8 r`, lie within the 32. -/
theorem slices_rows : ∀ r : Fin 4, S32x128.Slices ![8 * r.val, 0] S8x128 := by decide

/-- Rows `8 r` to `8 r + 7` of the half `q` (0: the even rows, 1: the odd ones) of 64 rows. -/
def SROW (q : Fin 2) (r : Fin 4) (v : FVec Ideal S64x128 .bf16) : FVec Ideal S8x128 .bf16 :=
  extractStridedSlice S8x128 ![8 * r.val, 0] (rowsOfParity q S32x128 v bitcasts_S64x128_w16_S32x128_w32) (slices_rows r)

/-- Those rows with their columns `2 l + f` gathered. -/
def SGW (p f : Fin 2) (r : Fin 4) (v : FVec Ideal S64x128 .bf16) : FVec Ideal S8x128 .bf16 :=
  rowsOfParity p S8x128 (GATHER (interleaveRows S16x128 (SROW 0 r v) (SROW 1 r v) bitcasts_S16x128_w16_S8x128_w32) (TWICE (BitVec.ofNat 32 f.val)))
    bitcasts_S16x128_w16_S8x128_w32

/-- The columns `2 l + f` of two neighbouring blocks of columns, side by side. -/
def SPICK (p f : Fin 2) (r : Fin 4) (a b : FVec Ideal S64x128 .bf16) : FVec Ideal S8x128 .bf16 :=
  select LOW (SGW p f r a) (SGW p f r b)

/-- One stored piece: the even columns as the words' low halves, the odd ones as their high halves. -/
def SPAY (p : Fin 2) (r : Fin 4) (a b : FVec Ideal S64x128 .bf16) : FVec Ideal S1x8x2x128 .bf16 :=
  interleaveRows S1x8x2x128
    (shapeCast S1x8x1x128 (shapeCast S1x8x128 (SPICK p 0 r a b) shapeCasts_S8x128_S1x8x128) shapeCasts_S1x8x128_S1x8x1x128)
    (shapeCast S1x8x1x128 (shapeCast S1x8x128 (SPICK p 1 r a b) shapeCasts_S8x128_S1x8x128) shapeCasts_S1x8x128_S1x8x1x128)
    bitcasts_S1x8x2x128_w16_S1x8x1x128_w32

/-- The rows of one parity of 16 rows of scales, at an index. -/
theorem srow_apply (q : Fin 2) (r : Fin 4) (v : FVec Ideal S64x128 .bf16) (k : Fin 8) (l : Fin 128) :
    SROW q r v (ix2 k l) = v (ix2 ⟨2 * (8 * r.val + k.val) + q.val, by omega⟩ l) := by
  fin_cases q <;> · unfold SROW; pointwise

/-- The gathered rows of one parity of the scales, at an index. -/
theorem sgw_apply (p f : Fin 2) (r : Fin 4) (v : FVec Ideal S64x128 .bf16) (k : Fin 8) (l : Fin 128) :
    SGW p f r v (ix2 k l)
      = v (ix2 ⟨2 * (8 * r.val + k.val) + p.val, by omega⟩ ⟨(2 * l.val + f.val) % 128, by omega⟩) := by
  unfold SGW
  fin_cases p
  · exact (gather_lo _ _ _ _ (twice_apply f) k l).trans (srow_apply 0 r v k _)
  · exact (gather_hi _ _ _ _ (twice_apply f) k l).trans (srow_apply 1 r v k _)

/-- The gathered rows of two column blocks joined, 64 lanes of each, at an index. -/
theorem spick_apply (p f : Fin 2) (r : Fin 4) (a b : FVec Ideal S64x128 .bf16) (k : Fin 8) (l : Fin 128) :
    SPICK p f r a b (ix2 k l)
      = if l.val < 64 then a (ix2 ⟨2 * (8 * r.val + k.val) + p.val, by omega⟩ ⟨(2 * l.val + f.val) % 128, by omega⟩)
        else b (ix2 ⟨2 * (8 * r.val + k.val) + p.val, by omega⟩ ⟨(2 * l.val + f.val) % 128, by omega⟩) := by
  unfold SPICK select
  rw [low_apply, sel_ite, sgw_apply, sgw_apply]

/-- One stored piece at an index. -/
theorem spay_apply (p : Fin 2) (r : Fin 4) (a b : FVec Ideal S64x128 .bf16) (z : Fin 1) (k : Fin 8) (f : Fin 2) (l : Fin 128) :
    SPAY p r a b (ix4 z k f l) = SPICK p f r a b (ix2 k l) := by
  obtain rfl : z = 0 := Subsingleton.elim _ _
  unfold SPAY
  rw [il4 _ _ _ 0 k f l 0 (by omega)]
  have hf : f = 0 ∨ f = 1 := by omega
  rcases hf with rfl | rfl
  · rw [if_pos (by decide)]; pointwise
  · rw [if_neg (by decide)]; pointwise

/-! ## The pieces -/

/-- Column block `n` (128 columns) of the scales. -/
theorem inb_cols : ∀ n : Fin 8, ∀ a, (![0, 128 * n.val] : Fin 2 → Nat) a + S64x128.size a ≤ S64x1024.size a := by decide

/-- The `n`-th 128 columns of a block of scales. -/
def SCOL (n : Fin 8) (x : Vec Ideal S64x1024 .bf16) : FVec Ideal S64x128 .bf16 :=
  View.ld x (Rect.unit ![0, 128 * n.val] S64x128.size (inb_cols n))

/-- The `n`-th 128 columns of a block of scales, at an index. -/
theorem scol_apply (n : Fin 8) (x : Vec Ideal S64x1024 .bf16) (k : Fin 64) (l : Fin 128) :
    SCOL n x (ix2 k l) = x (ix2 k ⟨128 * n.val + l.val, by omega⟩) := by
  unfold SCOL; pointwise

/-- Every piece lies in the scratch. -/
theorem inb_piece : ∀ (c r : Fin 4) (p : Fin 2), ∀ a, (![p.val, 8 * r.val, 0, 128 * c.val] : Fin 4 → Nat) a + S1x8x2x128.size a ≤ S2x32x2x512.size a := by
  decide

/-- The piece that the body stores for column block `c`, row block `r` and row parity `p`. -/
def SP (x : Vec Ideal S64x1024 .bf16) (c r : Fin 4) (p : Fin 2) : View.Piece (Elt Ideal) S2x32x2x512 .bf16 :=
  ⟨Rect.unit ![p.val, 8 * r.val, 0, 128 * c.val] S1x8x2x128.size (inb_piece c r p),
    SPAY p r (SCOL ⟨2 * c.val, by omega⟩ x) (SCOL ⟨2 * c.val + 1, by omega⟩ x)⟩

/-- What the scratch of scales holds once they are all stored: at row parity `p`, row `r`, column parity `f`, column `l`,
    the scale of row `2 r + p` and column `2 l + f`. -/
def SGRID (x : Vec Ideal S64x1024 .bf16) : Vec Ideal S2x32x2x512 .bf16 := fun j =>
  x (ix2 ⟨2 * (j 1).val + (j 0).val, by have h1 : (j 1).val < 32 := (j 1).isLt; have h0 : (j 0).val < 2 := (j 0).isLt; omega⟩
    ⟨2 * (j 3).val + (j 2).val, by have h3 : (j 3).val < 512 := (j 3).isLt; have h2 : (j 2).val < 2 := (j 2).isLt; omega⟩)

/-- The grid of scales at an index. -/
theorem sgrid_apply (x : Vec Ideal S64x1024 .bf16) (p : Fin 2) (r : Fin 32) (f : Fin 2) (l : Fin 512) :
    SGRID x (ix4 p r f l) = x (ix2 ⟨2 * r.val + p.val, by omega⟩ ⟨2 * l.val + f.val, by omega⟩) := rfl

/-- Where an entry of a piece lies. -/
theorem sp_emb (x : Vec Ideal S64x1024 .bf16) (c r : Fin 4) (p : Fin 2) (z : Fin 1) (k : Fin 8) (f : Fin 2) (l : Fin 128) :
    (SP x c r p).1.emb (ix4 z k f l) = ix4 p ⟨8 * r.val + k.val, by omega⟩ f ⟨128 * c.val + l.val, by omega⟩ := by
  obtain rfl : z = 0 := Subsingleton.elim _ _
  funext a
  apply Fin.ext
  match a with
  | ⟨0, _⟩ => exact Nat.add_zero _
  | ⟨1, _⟩ => exact congrArg (8 * r.val + ·) (Nat.one_mul _)
  | ⟨2, _⟩ => exact (Nat.zero_add _).trans (Nat.one_mul _)
  | ⟨3, _⟩ => exact congrArg (128 * c.val + ·) (Nat.one_mul _)

/-- Every piece is a part of it. -/
theorem sp_grid_ix (x : Vec Ideal S64x1024 .bf16) (c r : Fin 4) (p : Fin 2) (z : Fin 1) (k : Fin 8) (f : Fin 2) (l : Fin 128) :
    (SP x c r p).2 (ix4 z k f l) = SGRID x ((SP x c r p).1.emb (ix4 z k f l)) := by
  rw [sp_emb, sgrid_apply]
  refine (spay_apply p r _ _ z k f l).trans ?_
  rw [spick_apply, scol_apply, scol_apply]
  by_cases hl : l.val < 64
  · rw [if_pos hl]
    refine congrArg x (congrArg₂ ix2 (Fin.ext ?_) (Fin.ext ?_))
    · rfl
    · show 128 * (2 * c.val) + (2 * l.val + f.val) % 128 = 2 * (128 * c.val + l.val) + f.val; omega
  · rw [if_neg hl]
    refine congrArg x (congrArg₂ ix2 (Fin.ext ?_) (Fin.ext ?_))
    · rfl
    · show 128 * (2 * c.val + 1) + (2 * l.val + f.val) % 128 = 2 * (128 * c.val + l.val) + f.val; omega

/-- Every piece is a part of the grid of scales. -/
theorem sp_grid (x : Vec Ideal S64x1024 .bf16) (c r : Fin 4) (p : Fin 2) (j : S1x8x2x128.Idx) :
    (SP x c r p).2 j = SGRID x ((SP x c r p).1.emb j) := by
  have hj : j = ix4 (j 0 : Fin 1) (j 1 : Fin 8) (j 2 : Fin 2) (j 3 : Fin 128) := by
    funext a; match a with
    | ⟨0, _⟩ => rfl
    | ⟨1, _⟩ => rfl
    | ⟨2, _⟩ => rfl
    | ⟨3, _⟩ => rfl
  rw [hj]
  exact sp_grid_ix x c r p _ _ _ _

end Cert.KernelIdeal.Val

end
-- ==== Proof.Trip.lean ====
/- One trip of the loop over the groups, read at an index, at exact arithmetic: the accumulator plus the product of the
   expanded activations of one group with the group's dequantized weights. -/
module

public import proofs.«01_k».proof.Proof.Words

@[expose] public section

set_option maxRecDepth 16384

noncomputable section

namespace Cert.KernelIdeal.Val

open Cert.KernelIdeal Cert.KernelIdeal.Gen Idealize.ShloMosaic

/-- The low (`f = 0`) or the high (`f = 1`) nibble of a byte, as a word. -/
def NIBW (f : ℕ) (v : BitVec 8) : BitVec 32 :=
  if f = 0 then IntOp.andi (v.setWidth 32) 15#32 else IntOp.shrsi .vector (v.setWidth 32) 4#32

/-- The nibble, as a number. -/
def NIB (f : ℕ) (v : BitVec 8) : EReal := (((NIBW f v).toInt : ℝ) : EReal)

/-- The nibbles of 128 rows of bytes, low and high ones alternating. -/
def QROWS (v : Vec Ideal S128x256 .i8) : FVec Ideal S256x256 .bf16 :=
  sitofp .bf16 (shapeCast S256x256 (concatenate S128x2x256 1
    [⟨S128x1x256, shapeCast S128x1x256 (andi (extui 32 v natLt_8_32) (broadcast S128x256 15#32)) shapeCasts_S128x256_S128x1x256⟩,
     ⟨S128x1x256, shapeCast S128x1x256 (shrsi (extui 32 v natLt_8_32) (broadcast S128x256 4#32)) shapeCasts_S128x256_S128x1x256⟩]
    concatenates_S128x1x256_S128x1x256_S128x2x256_d1) shapeCasts_S128x2x256_S256x256)

/-- The rows of nibbles at an index. -/
theorem qrows_apply (v : Vec Ideal S128x256 .i8) (k : Fin 256) (c : Fin 256) :
    QROWS v (ix2 k c) = NIB (k.val % 2) (v (ix2 ⟨k.val / 2, by omega⟩ c)) := by
  pointwise [QROWS]
  unfold NIB NIBW
  by_cases h : k.val % 2 = 0
  · rw [dif_pos (by omega), if_pos h]; rfl
  · rw [dif_neg (by omega), if_neg h]; rfl

/-- One row, eight times. -/
def EIGHT (v : FVec Ideal S1x256 .bf16) : FVec Ideal S8x256 .bf16 :=
  concatenate S8x256 0 [⟨S1x256, v⟩, ⟨S1x256, v⟩, ⟨S1x256, v⟩, ⟨S1x256, v⟩, ⟨S1x256, v⟩, ⟨S1x256, v⟩, ⟨S1x256, v⟩, ⟨S1x256, v⟩]
    concatenates_S1x256_S1x256_S1x256_S1x256_S1x256_S1x256_S1x256_S1x256_S8x256_d0

/-- One row, eight times, at an index. -/
theorem eight_apply (v : FVec Ideal S1x256 .bf16) (r : Fin 8) (c : Fin 256) : EIGHT v (ix2 r c) = v (ix2 0 c) := by
  have hr : r.val = 0 ∨ r.val = 1 ∨ r.val = 2 ∨ r.val = 3 ∨ r.val = 4 ∨ r.val = 5 ∨ r.val = 6 ∨ r.val = 7 := by omega
  fin_cases r <;> · pointwise [EIGHT]

/-- The nibbles of the zero points, at their place in the scratch. -/
theorem pay16_apply (v : Vec Ideal S64x512 .i8) (g : Fin 64) (f : Fin 2) (l : Fin 512) :
    k0_pay16 (F := Ideal) v (ix3 g f l) = NIB f.val (v (ix2 g l)) := by
  unfold k0_pay16 NIB NIBW
  rw [il3 _ _ _ g f l 0 (by omega)]
  have hf : f = 0 ∨ f = 1 := by omega
  rcases hf with rfl | rfl
  · rw [if_pos (by decide), if_pos (by decide)]; pointwise; rw [dif_pos (by omega)]; rfl
  · rw [if_neg (by decide), if_neg (by decide)]; pointwise; rw [dif_neg (by omega)]; rfl

/-- The rows that a group's zero points or scales, a low and a high half of words, spread over: row `b` has the half `b % 2`. -/
def SPREAD (lo hi : FVec Ideal S1x256 .bf16) : FVec Ideal S16x16x256 .bf16 :=
  broadcastTo S16x16x256 (shapeCast S1x16x256 (interleaveRows S16x256 (EIGHT lo) (EIGHT hi) bitcasts_S16x256_w16_S8x256_w32)
    shapeCasts_S16x256_S1x16x256) broadcasts_S1x16x256_S16x16x256

/-- Two rows spread over 16 by parity, at an index. -/
theorem spread_apply (lo hi : FVec Ideal S1x256 .bf16) (a b : Fin 16) (c : Fin 256) :
    SPREAD lo hi (ix3 a b c) = if b.val % 2 = 0 then lo (ix2 0 c) else hi (ix2 0 c) := by
  have e : SPREAD lo hi (ix3 a b c) = interleaveRows S16x256 (EIGHT lo) (EIGHT hi) bitcasts_S16x256_w16_S8x256_w32 (ix2 b c) := by
    unfold SPREAD
    generalize interleaveRows S16x256 (EIGHT lo) (EIGHT hi) bitcasts_S16x256_w16_S8x256_w32 = w
    pointwise
  rw [e, il2 _ _ _ b c ⟨b.val / 2, by omega⟩ (by show b.val / 2 = _; omega), eight_apply, eight_apply]

/-- Half `p` of a row of zero points. -/
def ZHALF (p : Fin 2) (z : Vec Ideal S1x2x256 .bf16) : FVec Ideal S1x256 .bf16 :=
  shapeCast S1x256 (rowsOfParity p S1x1x256 z bitcasts_S1x2x256_w16_S1x1x256_w32) shapeCasts_S1x1x256_S1x256

/-- Half `p` of a row of zero points, at an index. -/
theorem zhalf_apply (p : Fin 2) (z : Vec Ideal S1x2x256 .bf16) (c : Fin 256) : ZHALF p z (ix2 0 c) = z (ix3 0 p c) := by
  fin_cases p <;> · unfold ZHALF; pointwise

/-- Half `p` of a row of scales. -/
def SHALF (p : Fin 2) (s : Vec Ideal S1x1x2x256 .bf16) : FVec Ideal S1x256 .bf16 :=
  shapeCast S1x256 (shapeCast S1x1x256 (rowsOfParity p S1x1x1x256 s bitcasts_S1x1x2x256_w16_S1x1x1x256_w32) shapeCasts_S1x1x1x256_S1x1x256)
    shapeCasts_S1x1x256_S1x256

/-- Half `p` of a row of scales, at an index. -/
theorem shalf_apply (p : Fin 2) (s : Vec Ideal S1x1x2x256 .bf16) (c : Fin 256) : SHALF p s (ix2 0 c) = s (ix4 0 0 p c) := by
  fin_cases p <;> · unfold SHALF; pointwise

/-- The dequantized weights of one group, of 128 rows of bytes: rows `2 k` and `2 k + 1` of the two nibbles of row `k`. -/
def WEIGHT (q : Vec Ideal S128x256 .i8) (z : Vec Ideal S1x2x256 .bf16) (s : Vec Ideal S1x1x2x256 .bf16) : FVec Ideal S256x256 .bf16 :=
  shapeCast S256x256 (mulf (subf (shapeCast S16x16x256 (QROWS q) shapeCasts_S256x256_S16x16x256) (SPREAD (ZHALF 0 z) (ZHALF 1 z)))
    (SPREAD (SHALF 0 s) (SHALF 1 s))) shapeCasts_S16x16x256_S256x256

/-- The weights of a group: nibble less zero point, times scale. -/
theorem weight_apply (q : Vec Ideal S128x256 .i8) (z : Vec Ideal S1x2x256 .bf16) (s : Vec Ideal S1x1x2x256 .bf16) (k c : Fin 256) :
    WEIGHT q z s (ix2 k c) = (NIB (k.val % 2) (q (ix2 ⟨k.val / 2, by omega⟩ c)) - z (ix3 0 ⟨k.val % 2, by omega⟩ c))
      * s (ix4 0 0 ⟨k.val % 2, by omega⟩ c) := by
  have e : WEIGHT q z s (ix2 k c) = (QROWS q (ix2 k c) - SPREAD (ZHALF 0 z) (ZHALF 1 z) (ix3 ⟨k.val / 16, by omega⟩ ⟨k.val % 16, by omega⟩ c))
      * SPREAD (SHALF 0 s) (SHALF 1 s) (ix3 ⟨k.val / 16, by omega⟩ ⟨k.val % 16, by omega⟩ c) := by
    pointwise [WEIGHT]
  rw [e, qrows_apply, spread_apply, spread_apply, zhalf_apply, zhalf_apply, shalf_apply, shalf_apply]
  have hk : k.val % 16 % 2 = k.val % 2 := by omega
  by_cases h : k.val % 2 = 0
  · rw [if_pos (hk.trans h), if_pos (hk.trans h), show (⟨k.val % 2, by omega⟩ : Fin 2) = 0 from Fin.ext h]
  · have h1 : k.val % 2 = 1 := by omega
    rw [if_neg (fun q => h (hk.symm.trans q)), if_neg (fun q => h (hk.symm.trans q)), show (⟨k.val % 2, by omega⟩ : Fin 2) = 1 from Fin.ext h1]

/-- Tile 0's new accumulator, with the group's weights named. -/
theorem pay345_eq (a : FVec Ideal S32x256 .f32) (q : Vec Ideal S128x256 .i8) (z : Vec Ideal S1x2x256 .bf16) (s : Vec Ideal S1x1x2x256 .bf16)
    (x : Vec Ideal S1x32x256 .bf16) : k0_pay345 (F := Ideal) a q z s x
      = addf a (matmul dot_S32x256_S256x256_S32x256_1_0_0_1_n_n none (shapeCast S32x256 x shapeCasts_S1x32x256_S32x256 : FVec Ideal S32x256 .bf16) (WEIGHT q z s)
          (constant S32x256 .f32 0x00000000#32)) := rfl

/-- Tile 1's new accumulator is made as tile 0's. -/
theorem pay377_eq (a : FVec Ideal S32x256 .f32) (q : Vec Ideal S128x256 .i8) (z : Vec Ideal S1x2x256 .bf16) (s : Vec Ideal S1x1x2x256 .bf16)
    (x : Vec Ideal S1x32x256 .bf16) : k0_pay377 (F := Ideal) a q z s x = k0_pay345 a q z s x := rfl

/-- One trip: the accumulator plus the products of the group's 256 expanded columns. -/
theorem pay345_apply (a : FVec Ideal S32x256 .f32) (q : Vec Ideal S128x256 .i8) (z : Vec Ideal S1x2x256 .bf16) (s : Vec Ideal S1x1x2x256 .bf16)
    (x : Vec Ideal S1x32x256 .bf16) (r : Fin 32) (c : Fin 256) : k0_pay345 (F := Ideal) a q z s x (ix2 r c)
      = a (ix2 r c) + ∑ k : Fin 256, x (ix3 0 r k) * WEIGHT q z s (ix2 k c) := by
  rw [pay345_eq]
  generalize WEIGHT q z s = w
  pointwise

end Cert.KernelIdeal.Val

end
-- ==== Proof.Loop.lean ====
/- The loop over the groups, at exact arithmetic: after all trips an accumulator holds its start plus the sum over the
   groups of the products of the expanded activations with the dequantized weights. -/
module

public import proofs.«01_k».proof.Proof.Trip
public import proofs.«01_k».proof.Proof.Gen.KernelIdeal.Loops

@[expose] public section

set_option maxRecDepth 16384

noncomputable section

namespace Cert.KernelIdeal.Val

open Cert.KernelIdeal Cert.KernelIdeal.Gen Idealize.ShloMosaic Idealize.ShloMosaic.TcCoe

/-- What group `g` adds to entry `(r, l)` of the accumulator of tile `t`: the products of the 256 expanded columns of the group
    with the weights read from the bytes `q`, the zero points `z` and the scales `s`. -/
def GROUP (q : Vec Ideal S8192x512 .i8) (x : Vec Ideal S64x32x256 .bf16) (z : Vec Ideal S64x2x512 .bf16) (s : Vec Ideal S2x32x2x512 .bf16)
    (t : Fin 2) (g : Fin 64) (r : Fin 32) (l : Fin 256) : EReal :=
  ∑ k : Fin 256, x (ix3 g r k) * ((NIB (k.val % 2) (q (ix2 ⟨128 * g.val + k.val / 2, by omega⟩ ⟨256 * t.val + l.val, by omega⟩))
      - z (ix3 g ⟨k.val % 2, by omega⟩ ⟨256 * t.val + l.val, by omega⟩))
    * s (ix4 ⟨g.val % 2, by omega⟩ ⟨g.val / 2, by omega⟩ ⟨k.val % 2, by omega⟩ ⟨256 * t.val + l.val, by omega⟩))

/-- The same for any number `g`, nothing from 64 on. -/
def GROUPN (q : Vec Ideal S8192x512 .i8) (x : Vec Ideal S64x32x256 .bf16) (z : Vec Ideal S64x2x512 .bf16) (s : Vec Ideal S2x32x2x512 .bf16)
    (t : Fin 2) (g : ℕ) (r : Fin 32) (l : Fin 256) : EReal :=
  if h : g < 64 then GROUP q x z s t ⟨g, h⟩ r l else 0

/-- At a number below 64 it is the sum of that group. -/
theorem groupn_of_lt (q : Vec Ideal S8192x512 .i8) (x : Vec Ideal S64x32x256 .bf16) (z : Vec Ideal S64x2x512 .bf16) (s : Vec Ideal S2x32x2x512 .bf16)
    (t : Fin 2) (g : ℕ) (h : g < 64) (r : Fin 32) (l : Fin 256) : GROUPN q x z s t g r l = GROUP q x z s t ⟨g, h⟩ r l := dif_pos h

/-! ## The loads of a trip -/

/-- A load of one group of expanded activations. -/
theorem ld_x (x : Vec Ideal S64x32x256 .bf16) (off : Fin 3 → ℕ) (g : ℕ) (h : off = ![g, 0, 0]) (inb : ∀ a, off a + S1x32x256.size a ≤ S64x32x256.size a)
    (hg : g < 64) (r : Fin 32) (k : Fin 256) : View.ld x (Rect.unit off S1x32x256.size inb) (ix3 0 r k) = x (ix3 ⟨g, hg⟩ r k) := by
  subst h; pointwise

/-- A load of one group's packed weights. -/
theorem ld_q (q : Vec Ideal S8192x512 .i8) (off : Fin 2 → ℕ) (g : ℕ) (t : Fin 2) (h : off = ![128 * g, 256 * t.val])
    (inb : ∀ a, off a + S128x256.size a ≤ S8192x512.size a) (hg : g < 64) (k : Fin 128) (l : Fin 256) :
    View.ld q (Rect.unit off S128x256.size inb) (ix2 k l) = q (ix2 ⟨128 * g + k.val, by omega⟩ ⟨256 * t.val + l.val, by omega⟩) := by
  subst h; pointwise

/-- A load of one group's zero points. -/
theorem ld_z (z : Vec Ideal S64x2x512 .bf16) (off : Fin 3 → ℕ) (g : ℕ) (t : Fin 2) (h : off = ![g, 0, 256 * t.val])
    (inb : ∀ a, off a + S1x2x256.size a ≤ S64x2x512.size a) (hg : g < 64) (f : Fin 2) (l : Fin 256) :
    View.ld z (Rect.unit off S1x2x256.size inb) (ix3 0 f l) = z (ix3 ⟨g, hg⟩ f ⟨256 * t.val + l.val, by omega⟩) := by
  subst h; pointwise

/-- A load of one group's scales. -/
theorem ld_s (s : Vec Ideal S2x32x2x512 .bf16) (off : Fin 4 → ℕ) (g : ℕ) (t : Fin 2) (h : off = ![g % 2, g / 2, 0, 256 * t.val])
    (inb : ∀ a, off a + S1x1x2x256.size a ≤ S2x32x2x512.size a) (hg : g < 64) (f : Fin 2) (l : Fin 256) :
    View.ld s (Rect.unit off S1x1x2x256.size inb) (ix4 0 0 f l)
      = s (ix4 ⟨g % 2, by omega⟩ ⟨g / 2, by omega⟩ f ⟨256 * t.val + l.val, by omega⟩) := by
  subst h; pointwise

/-! ## The two tiles -/

/-- The offsets of the loads in tile 0's loop. -/
theorem offs_t2 : ∀ k : Fin k0_t2_loop.trips, k0_off6 k = ![128 * k.val, 256 * 0] ∧ k0_off7 k = ![k.val, 0, 256 * 0]
    ∧ k0_off8 k = ![k.val % 2, k.val / 2, 0, 256 * 0] ∧ k0_off9 k = ![k.val, 0, 0] := by decide +kernel

/-- Tile 0's loop makes 64 trips. -/
theorem trips_t2 : k0_t2_loop.trips = 64 := by decide

/-- One trip of tile 0's loop adds the sum of its group. -/
theorem trip_t2 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (cst : Ideal .f32) (f2 : BufTy.Contents (Elt Ideal) arg2.view.ty) (f6 : BufTy.Contents (Elt Ideal) arg6.view.ty) (f7 : BufTy.Contents (Elt Ideal) arg7.view.ty) (f8 : BufTy.Contents (Elt Ideal) arg8.view.ty)
    (k : Fin k0_t2_loop.trips) (hk : k.val < 64) (acc : FVec Ideal S32x256 .f32) (r : Fin 32) (l : Fin 256) :
    tripR_k0_t2 (F := Ideal) Variants.none c none i arg1 harg1 arg2 harg2 arg3 harg3 arg4 harg4 arg5 harg5 arg6 harg6 arg7 harg7 arg8 harg8 cst f2 f6 f7 f8 k acc (ix2 r l)
      = acc (ix2 r l) + GROUP (arg2.view.read (Elt Ideal) f2) (arg6.view.read (Elt Ideal) f6) (arg7.view.read (Elt Ideal) f7) (arg8.view.read (Elt Ideal) f8) 0 ⟨k.val, hk⟩ r l := by
  unfold tripR_k0_t2 trip_k0_t2
  dsimp only
  simp only [View.readAt_eq_ld]
  rw [pay345_apply]
  unfold GROUP
  refine congrArg (acc (ix2 r l) + ·) (Finset.sum_congr rfl fun j _ => ?_)
  obtain ⟨h2, h7, h8, h6⟩ := offs_t2 k
  rw [weight_apply, ld_x _ _ _ h6 _ hk, ld_q _ _ _ 0 h2 _ hk, ld_z _ _ _ 0 h7 _ hk, ld_s _ _ _ 0 h8 _ hk]

/-- The loop over the groups, of tile 0: after `n` trips the accumulator is its start plus the first `n` groups' terms. -/
theorem loop_t2 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (cst : Ideal .f32) (f2 : BufTy.Contents (Elt Ideal) arg2.view.ty) (f6 : BufTy.Contents (Elt Ideal) arg6.view.ty) (f7 : BufTy.Contents (Elt Ideal) arg7.view.ty) (f8 : BufTy.Contents (Elt Ideal) arg8.view.ty)
    (init : FVec Ideal S32x256 .f32) (r : Fin 32) (l : Fin 256) : ∀ n : ℕ, n ≤ 64 →
    st_k0_t2 (F := Ideal) Variants.none c none i arg1 harg1 arg2 harg2 arg3 harg3 arg4 harg4 arg5 harg5 arg6 harg6 arg7 harg7 arg8 harg8 cst f2 f6 f7 f8 init n (ix2 r l)
      = init (ix2 r l) + ∑ g ∈ Finset.range n, GROUPN (arg2.view.read (Elt Ideal) f2) (arg6.view.read (Elt Ideal) f6) (arg7.view.read (Elt Ideal) f7) (arg8.view.read (Elt Ideal) f8) 0 g r l
  | 0, _ => by
    rw [st_k0_t2_zero, Finset.sum_range_zero]; exact (add_zero _).symm
  | n + 1, h => by
    have hk : n < k0_t2_loop.trips := by rw [trips_t2]; omega
    have e := st_k0_t2_succ (F := Ideal) Variants.none c none i arg1 harg1 arg2 harg2 arg3 harg3 arg4 harg4 arg5 harg5 arg6 harg6 arg7 harg7 arg8 harg8 cst f2 f6 f7 f8 init ⟨n, hk⟩
    refine (congrFun e (ix2 r l)).trans ?_
    rw [trip_t2 c i arg1 harg1 arg2 harg2 arg3 harg3 arg4 harg4 arg5 harg5 arg6 harg6 arg7 harg7 arg8 harg8 cst f2 f6 f7 f8 ⟨n, hk⟩ (by show n < 64; omega), Finset.sum_range_succ, groupn_of_lt _ _ _ _ _ n (by omega), ← add_assoc]
    exact congrArg (· + _) (loop_t2 c i arg1 harg1 arg2 harg2 arg3 harg3 arg4 harg4 arg5 harg5 arg6 harg6 arg7 harg7 arg8 harg8 cst f2 f6 f7 f8 init r l n (by omega))

/-- The offsets of the loads in tile 1's loop. -/
theorem offs_t3 : ∀ k : Fin k0_t3_loop.trips, k0_off10 k = ![128 * k.val, 256 * 1] ∧ k0_off11 k = ![k.val, 0, 256 * 1]
    ∧ k0_off12 k = ![k.val % 2, k.val / 2, 0, 256 * 1] ∧ k0_off13 k = ![k.val, 0, 0] := by decide +kernel

/-- Tile 1's loop makes 64 trips. -/
theorem trips_t3 : k0_t3_loop.trips = 64 := by decide

/-- One trip of tile 1's loop adds the sum of its group. -/
theorem trip_t3 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (e0 : IVec S8x128 1) (e1 e2 : FVec Ideal S8x128 .bf16) (e3 : IVec S8x128 32) (e4 : FVec Ideal S16x128 .f32) (e5 : IVec S16x128 32) (e6 : IVec S16x128 1) (e7 : IVec S16x128 32) (f2 : BufTy.Contents (Elt Ideal) arg2.view.ty) (f6 : BufTy.Contents (Elt Ideal) arg6.view.ty) (f7 : BufTy.Contents (Elt Ideal) arg7.view.ty) (f8 : BufTy.Contents (Elt Ideal) arg8.view.ty)
    (k : Fin k0_t3_loop.trips) (hk : k.val < 64) (acc : FVec Ideal S32x256 .f32) (r : Fin 32) (l : Fin 256) :
    tripR_k0_t3 (F := Ideal) Variants.none c none i arg1 harg1 arg2 harg2 arg3 harg3 arg4 harg4 arg5 harg5 arg6 harg6 arg7 harg7 arg8 harg8 e0 e1 e2 e3 e4 e5 e6 e7 f2 f6 f7 f8 k acc (ix2 r l)
      = acc (ix2 r l) + GROUP (arg2.view.read (Elt Ideal) f2) (arg6.view.read (Elt Ideal) f6) (arg7.view.read (Elt Ideal) f7) (arg8.view.read (Elt Ideal) f8) 1 ⟨k.val, hk⟩ r l := by
  unfold tripR_k0_t3 trip_k0_t3
  dsimp only
  simp only [View.readAt_eq_ld]
  rw [pay377_eq, pay345_apply]
  unfold GROUP
  refine congrArg (acc (ix2 r l) + ·) (Finset.sum_congr rfl fun j _ => ?_)
  obtain ⟨h2, h7, h8, h6⟩ := offs_t3 k
  rw [weight_apply, ld_x _ _ _ h6 _ hk, ld_q _ _ _ 1 h2 _ hk, ld_z _ _ _ 1 h7 _ hk, ld_s _ _ _ 1 h8 _ hk]

/-- The loop over the groups, of tile 1: after `n` trips the accumulator is its start plus the first `n` groups' terms. -/
theorem loop_t3 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (e0 : IVec S8x128 1) (e1 e2 : FVec Ideal S8x128 .bf16) (e3 : IVec S8x128 32) (e4 : FVec Ideal S16x128 .f32) (e5 : IVec S16x128 32) (e6 : IVec S16x128 1) (e7 : IVec S16x128 32) (f2 : BufTy.Contents (Elt Ideal) arg2.view.ty) (f6 : BufTy.Contents (Elt Ideal) arg6.view.ty) (f7 : BufTy.Contents (Elt Ideal) arg7.view.ty) (f8 : BufTy.Contents (Elt Ideal) arg8.view.ty)
    (init : FVec Ideal S32x256 .f32) (r : Fin 32) (l : Fin 256) : ∀ n : ℕ, n ≤ 64 →
    st_k0_t3 (F := Ideal) Variants.none c none i arg1 harg1 arg2 harg2 arg3 harg3 arg4 harg4 arg5 harg5 arg6 harg6 arg7 harg7 arg8 harg8 e0 e1 e2 e3 e4 e5 e6 e7 f2 f6 f7 f8 init n (ix2 r l)
      = init (ix2 r l) + ∑ g ∈ Finset.range n, GROUPN (arg2.view.read (Elt Ideal) f2) (arg6.view.read (Elt Ideal) f6) (arg7.view.read (Elt Ideal) f7) (arg8.view.read (Elt Ideal) f8) 1 g r l
  | 0, _ => by
    rw [st_k0_t3_zero, Finset.sum_range_zero]; exact (add_zero _).symm
  | n + 1, h => by
    have hk : n < k0_t3_loop.trips := by rw [trips_t3]; omega
    have e := st_k0_t3_succ (F := Ideal) Variants.none c none i arg1 harg1 arg2 harg2 arg3 harg3 arg4 harg4 arg5 harg5 arg6 harg6 arg7 harg7 arg8 harg8 e0 e1 e2 e3 e4 e5 e6 e7 f2 f6 f7 f8 init ⟨n, hk⟩
    refine (congrFun e (ix2 r l)).trans ?_
    rw [trip_t3 c i arg1 harg1 arg2 harg2 arg3 harg3 arg4 harg4 arg5 harg5 arg6 harg6 arg7 harg7 arg8 harg8 e0 e1 e2 e3 e4 e5 e6 e7 f2 f6 f7 f8 ⟨n, hk⟩ (by show n < 64; omega), Finset.sum_range_succ, groupn_of_lt _ _ _ _ _ n (by omega), ← add_assoc]
    exact congrArg (· + _) (loop_t3 c i arg1 harg1 arg2 harg2 arg3 harg3 arg4 harg4 arg5 harg5 arg6 harg6 arg7 harg7 arg8 harg8 e0 e1 e2 e3 e4 e5 e6 e7 f2 f6 f7 f8 init r l n (by omega))

end Cert.KernelIdeal.Val

end
-- ==== Proof.Grids.lean ====
/- What the scratches of zero points and of scales hold once the body has stored them, at exact arithmetic. -/
module

public import proofs.«01_k».proof.Proof.SPay
public import proofs.«01_k».proof.Proof.Loop
public import proofs.«01_k».proof.Proof.IRunA
public import proofs.«01_k».proof.Proof.IRunB

@[expose] public section

set_option maxRecDepth 16384

noncomputable section

namespace Cert.KernelIdeal.Val

open Cert.KernelIdeal Cert.KernelIdeal.Gen Idealize.ShloMosaic Idealize.ShloMosaic.TcCoe Idealize.ShloMosaic.Tactic

/-- The pieces of the scales' scratch, in the reverse order of their stores. -/
def SLIST (x : Vec Ideal S64x1024 .bf16) : List (View.Piece (Elt Ideal) S2x32x2x512 .bf16) :=
  [SP x 3 3 1, SP x 3 3 0, SP x 3 2 1, SP x 3 2 0, SP x 3 1 1, SP x 3 1 0, SP x 3 0 1, SP x 3 0 0, SP x 2 3 1, SP x 2 3 0, SP x 2 2 1, SP x 2 2 0, SP x 2 1 1, SP x 2 1 0, SP x 2 0 1, SP x 2 0 0, SP x 1 3 1, SP x 1 3 0, SP x 1 2 1, SP x 1 2 0, SP x 1 1 1, SP x 1 1 0, SP x 1 0 1, SP x 1 0 0, SP x 0 3 1, SP x 0 3 0, SP x 0 2 1, SP x 0 2 0, SP x 0 1 1, SP x 0 1 0, SP x 0 0 1, SP x 0 0 0]

/-- Each of the 32 pieces is a part of the grid of scales. -/
theorem slist_grid (x : Vec Ideal S64x1024 .bf16) : ∀ pc ∈ SLIST x, ∀ j, pc.2 j = SGRID x (pc.1.emb j) := by
  unfold SLIST
  repeat' (refine List.forall_mem_cons.2 ⟨sp_grid x _ _ _, ?_⟩)
  exact fun _ h => nomatch h

/-- The 32 pieces cover the scratch. -/
theorem slist_cover (x : Vec Ideal S64x1024 .bf16) (y : S2x32x2x512.Idx) : ∃ pc ∈ SLIST x, y ∈ pc.1.set :=
  View.cover_of_tiledL (SLIST x) S1x8x2x128.size (by sl_kernel_rfl) y

/-- The scales' scratch reads as the grid of scales. -/
theorem read_s (arg8 : Memref sig .tc .vmem S2x32x2x512 .bf16) (f : BufTy.Contents (Elt Ideal) arg8.view.ty) (x : Vec Ideal S64x1024 .bf16) :
    arg8.view.read (Elt Ideal) (arg8.view.writes (Elt Ideal) f (SLIST x)) = SGRID x := by
  funext y
  exact View.read_writes_apply_of_pieces _ f (SGRID x) _ (slist_grid x) y (slist_cover x y)

/-- A later grid point stores these pieces of scales. -/
theorem list_s_B (c : Dev nD) (arg4 : Memref sig .tc .vmem S64x1024 .bf16) (harg4 : arg4.IsWhole) (x : Vec Ideal S64x1024 .bf16) :
    kernelRun0_B.sl.HS2_32 (F := Ideal) c arg4 harg4 x = SLIST (arg4.view.read (Elt Ideal) (harg4.unread x)) := rfl

/-- The first grid point stores these pieces of scales. -/
theorem list_s_A (c : Dev nD) (arg4 : Memref sig .tc .vmem S64x1024 .bf16) (harg4 : arg4.IsWhole) (x : Vec Ideal S64x1024 .bf16) :
    runA0.sl.HS2_32 (F := Ideal) c arg4 harg4 x = SLIST (arg4.view.read (Elt Ideal) (harg4.unread x)) := rfl

/-- What the scratch of zero points holds: at row `g`, parity `f`, column `l`, the nibble `f` of that byte. -/
def ZGRID (x : Vec Ideal S64x512 .i8) : Vec Ideal S64x2x512 .bf16 := k0_pay16 (F := Ideal) x

/-- The scratch of zero points at an index. -/
theorem zgrid_apply (x : Vec Ideal S64x512 .i8) (g : Fin 64) (f : Fin 2) (l : Fin 512) : ZGRID x (ix3 g f l) = NIB f.val (x (ix2 g l)) :=
  pay16_apply x g f l

/-- The one piece of the scratch of zero points. -/
def ZLIST (x : Vec Ideal S64x512 .i8) : List (View.Piece (Elt Ideal) S64x2x512 .bf16) :=
  [⟨Rect.unit ![0, 0, 0] S64x2x512.size inb_S64x2x512_S64x2x512_0_0_0,
      k0_pay16 (F := Ideal) (View.ld x (Rect.unit ![0, 0] S64x512.size inb_S64x512_S64x512_0_0))⟩]

/-- A load of the whole block is the block. -/
theorem ld_whole (x : Vec Ideal S64x512 .i8) : View.ld x (Rect.unit ![0, 0] S64x512.size inb_S64x512_S64x512_0_0) = x := by
  funext j
  refine congrArg x (funext fun a => Fin.ext ?_)
  match a with
  | ⟨0, _⟩ => exact (Nat.zero_add _).trans (Nat.one_mul _)
  | ⟨1, _⟩ => exact (Nat.zero_add _).trans (Nat.one_mul _)

/-- An entry of the whole scratch lies at its own place. -/
theorem z_emb (j : S64x2x512.Idx) : (Rect.unit (s := S64x2x512) ![0, 0, 0] S64x2x512.size inb_S64x2x512_S64x2x512_0_0_0).emb j = j := by
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The piece is the nibbles of the zero points. -/
theorem zlist_grid (x : Vec Ideal S64x512 .i8) : ∀ pc ∈ ZLIST x, ∀ j, pc.2 j = ZGRID x (pc.1.emb j) := by
  unfold ZLIST
  refine List.forall_mem_cons.2 ⟨fun j => ?_, fun _ h => nomatch h⟩
  exact (congrFun (congrArg (k0_pay16 (F := Ideal)) (ld_whole x)) j).trans (congrArg (ZGRID x) (z_emb j).symm)

/-- The piece covers the scratch. -/
theorem zlist_cover (x : Vec Ideal S64x512 .i8) (y : S64x2x512.Idx) : ∃ pc ∈ ZLIST x, y ∈ pc.1.set :=
  View.cover_of_tiledL (ZLIST x) S64x2x512.size (by sl_kernel_rfl) y

/-- The zero points' scratch reads as their nibbles. -/
theorem read_z (arg7 : Memref sig .tc .vmem S64x2x512 .bf16) (f : BufTy.Contents (Elt Ideal) arg7.view.ty) (x : Vec Ideal S64x512 .i8) :
    arg7.view.read (Elt Ideal) (arg7.view.writes (Elt Ideal) f (ZLIST x)) = ZGRID x := by
  funext y
  exact View.read_writes_apply_of_pieces _ f (ZGRID x) _ (zlist_grid x) y (zlist_cover x y)

/-- A later grid point stores this piece of zero points. -/
theorem list_z_B (c : Dev nD) (arg3 : Memref sig .tc .vmem S64x512 .i8) (harg3 : arg3.IsWhole) (x : Vec Ideal S64x512 .i8) :
    kernelRun0_B.sl.HS1_1 (F := Ideal) c arg3 harg3 x = ZLIST (arg3.view.read (Elt Ideal) (harg3.unread x)) := rfl

/-- The first grid point stores this piece of zero points. -/
theorem list_z_A (c : Dev nD) (arg3 : Memref sig .tc .vmem S64x512 .i8) (harg3 : arg3.IsWhole) (x : Vec Ideal S64x512 .i8) :
    runA0.sl.HS1_1 (F := Ideal) c arg3 harg3 x = ZLIST (arg3.view.read (Elt Ideal) (harg3.unread x)) := rfl

end Cert.KernelIdeal.Val

end
-- ==== Proof.XPay.lean ====
/- What one trip of the expansion loop stores, read at an index, at exact arithmetic: the 128 columns of one group are
   spread over 256 columns, each one beside a zero. -/
module

public import proofs.«01_k».proof.Proof.Words

@[expose] public section

set_option maxRecDepth 16384

noncomputable section

namespace Cert.KernelIdeal.Val

open Cert.KernelIdeal Cert.KernelIdeal.Gen Idealize.ShloMosaic

/-- Half `p` of the words of 16 rows, gathered at the lane indices `idx`. -/
def GW (p : Fin 2) (v : FVec Ideal S16x128 .bf16) (idx : IVec S8x128 32) : FVec Ideal S8x128 .bf16 :=
  rowsOfParity p S8x128 (GATHER (interleaveRows S16x128 (rowsOfParity 0 S8x128 v bitcasts_S16x128_w16_S8x128_w32)
    (rowsOfParity 1 S8x128 v bitcasts_S16x128_w16_S8x128_w32) bitcasts_S16x128_w16_S8x128_w32) idx) bitcasts_S16x128_w16_S8x128_w32

/-- The gathered even rows, at an index. -/
theorem gw0_apply (v : FVec Ideal S16x128 .bf16) (idx : IVec S8x128 32) (f : Fin 128 → Fin 128)
    (hf : ∀ (r : Fin 8) (l : Fin 128), idx (ix2 r l) = BitVec.ofNat 32 (f l).val) (r : Fin 8) (l : Fin 128) :
    GW 0 v idx (ix2 r l) = v (ix2 ⟨2 * r.val, by omega⟩ (f l)) := by
  unfold GW
  rw [gather_lo _ _ idx f hf]
  pointwise

/-- The gathered odd rows, at an index. -/
theorem gw1_apply (v : FVec Ideal S16x128 .bf16) (idx : IVec S8x128 32) (f : Fin 128 → Fin 128)
    (hf : ∀ (r : Fin 8) (l : Fin 128), idx (ix2 r l) = BitVec.ofNat 32 (f l).val) (r : Fin 8) (l : Fin 128) :
    GW 1 v idx (ix2 r l) = v (ix2 ⟨2 * r.val + 1, by omega⟩ (f l)) := by
  unfold GW
  rw [gather_hi _ _ idx f hf]
  pointwise

/-- The zero rows. -/
def ZERO : FVec Ideal S8x128 .bf16 := constant S8x128 .bf16 0x0000#16

/-- The array of zeros is zero at every index. -/
theorem zero_apply (r : Fin 8) (l : Fin 128) : ZERO (ix2 r l) = 0 := by
  pointwise [ZERO]

/-- 64 columns spread over the even lanes (`b` says which half of the group), zeros in the odd ones. -/
def XEVEN (b : BitVec 32) (v : FVec Ideal S16x128 .bf16) : FVec Ideal S1x16x128 .bf16 :=
  shapeCast S1x16x128 (interleaveRows S16x128
    (select EVEN (GW 0 (shapeCast S16x128 v shapeCasts_S16x128_S16x128) (HALF b)) ZERO)
    (select EVEN (GW 1 (shapeCast S16x128 v shapeCasts_S16x128_S16x128) (HALF b)) ZERO) bitcasts_S16x128_w16_S8x128_w32)
    shapeCasts_S16x128_S1x16x128

/-- The same over the odd lanes. -/
def XODD (b : BitVec 32) (v : FVec Ideal S16x128 .bf16) : FVec Ideal S1x16x128 .bf16 :=
  shapeCast S1x16x128 (interleaveRows S16x128
    (select EVEN ZERO (GW 0 (shapeCast S16x128 v shapeCasts_S16x128_S16x128) (HALF b)))
    (select EVEN ZERO (GW 1 (shapeCast S16x128 v shapeCasts_S16x128_S16x128) (HALF b))) bitcasts_S16x128_w16_S8x128_w32)
    shapeCasts_S16x128_S1x16x128

/-- What is stored into rows 0 to 15, at an index. -/
theorem xeven_apply (h : Fin 2) (v : FVec Ideal S16x128 .bf16) (z : Fin 1) (r : Fin 16) (l : Fin 128) :
    XEVEN (BitVec.ofNat 32 (64 * h.val)) v (ix3 z r l) = if l.val % 2 = 0 then v (ix2 r ⟨l.val / 2 + 64 * h.val, by omega⟩) else 0 := by
  obtain rfl : z = 0 := Subsingleton.elim _ _
  pointwise [XEVEN]
  simp only [gw0_apply _ _ _ (half_apply h), gw1_apply _ _ _ (half_apply h), even_apply, sel_ite, zero_apply]
  split <;> rename_i hr <;> split <;>
    first | rfl | (refine congrArg (fun q => v (ix2 q _)) (Fin.ext ?_); show 2 * (r.val / 2) + _ = r.val; omega) |
      (refine congrArg (fun q => v (ix2 q _)) (Fin.ext ?_); show 2 * (r.val / 2) = r.val; omega)

/-- What is stored into rows 16 to 31, at an index. -/
theorem xodd_apply (h : Fin 2) (v : FVec Ideal S16x128 .bf16) (z : Fin 1) (r : Fin 16) (l : Fin 128) :
    XODD (BitVec.ofNat 32 (64 * h.val)) v (ix3 z r l) = if l.val % 2 = 0 then 0 else v (ix2 r ⟨l.val / 2 + 64 * h.val, by omega⟩) := by
  obtain rfl : z = 0 := Subsingleton.elim _ _
  pointwise [XODD]
  simp only [gw0_apply _ _ _ (half_apply h), gw1_apply _ _ _ (half_apply h), even_apply, sel_ite, zero_apply]
  split <;> rename_i hr <;> split <;>
    first | rfl | (refine congrArg (fun q => v (ix2 q _)) (Fin.ext ?_); show 2 * (r.val / 2) + _ = r.val; omega) |
      (refine congrArg (fun q => v (ix2 q _)) (Fin.ext ?_); show 2 * (r.val / 2) = r.val; omega)

/-! ## The stored payloads in these words -/

/-- The payload of rows 0 to 15, first 128 places, in these terms. -/
theorem pay8_eq (v : Vec Ideal S16x128 .bf16) : k0_pay8 (F := Ideal) v = XEVEN (BitVec.ofNat 32 (64 * (0 : Fin 2).val)) v := rfl
/-- The payload of rows 16 to 31, first 128 places, in these terms. -/
theorem pay10_eq (v : Vec Ideal S16x128 .bf16) : k0_pay10 (F := Ideal) (k0_pay9 v) = XODD (BitVec.ofNat 32 (64 * (0 : Fin 2).val)) v := rfl
/-- The payload of rows 0 to 15, other 128 places, in these terms. -/
theorem pay14_eq (v : Vec Ideal S16x128 .bf16) :
    k0_pay14 (F := Ideal) (k0_pay2 v) (k0_pay3 v) (iota .tc S8x128 32 [1] iota_S8x128_d1_w32) k0_pay4 = XEVEN (BitVec.ofNat 32 (64 * (1 : Fin 2).val)) v := rfl
/-- The payload of rows 16 to 31, other 128 places, in these terms. -/
theorem pay15_eq (v : Vec Ideal S16x128 .bf16) :
    k0_pay15 (F := Ideal) (k0_pay2 v) (k0_pay3 v) (iota .tc S8x128 32 [1] iota_S8x128_d1_w32) k0_pay4 = XODD (BitVec.ofNat 32 (64 * (1 : Fin 2).val)) v := rfl

end Cert.KernelIdeal.Val

end
-- ==== Proof.XGrid.lean ====
/- What the scratch of expanded activations holds after the expansion loop, at exact arithmetic. -/
module

public import proofs.«01_k».proof.Proof.XPay
public import proofs.«01_k».proof.Proof.IRunA0

@[expose] public section

set_option maxRecDepth 16384

noncomputable section

namespace Cert.KernelIdeal.Val

open Cert.KernelIdeal Cert.KernelIdeal.Gen Idealize.ShloMosaic Idealize.ShloMosaic.TcCoe Idealize.ShloMosaic.Tactic

/-- The expanded activations at group `g`, row `r`, column `k`: in the first 16 rows activation `k / 2` of the group where `k`
    is even, in the last 16 rows where `k` is odd, and zero elsewhere. -/
def XAT (x : Vec Ideal S16x8192 .bf16) (g r k : ℕ) : EReal :=
  if h : g < 64 ∧ k < 256 then
    if r / 16 = k % 2 then x (ix2 ⟨r % 16, by omega⟩ ⟨128 * g + k / 2, by omega⟩) else 0
  else 0

/-- The whole scratch. -/
def XGRID (x : Vec Ideal S16x8192 .bf16) : Vec Ideal S64x32x256 .bf16 := fun j => XAT x (j 0).val (j 1).val (j 2).val

/-- The expanded activations at an index. -/
theorem xgrid_apply (x : Vec Ideal S16x8192 .bf16) (g : Fin 64) (r : Fin 32) (k : Fin 256) : XGRID x (ix3 g r k) = XAT x g.val r.val k.val := rfl

/-- Where an entry of a piece lies. -/
theorem xp_emb (off : Fin 3 → ℕ) (g a b : ℕ) (h : off = ![g, a, b]) (inb : ∀ a, off a + S1x16x128.size a ≤ S64x32x256.size a)
    (hg : g < 64) (ha : a + 16 ≤ 32) (hb : b + 128 ≤ 256) (r : Fin 16) (l : Fin 128) :
    (Rect.unit (s := S64x32x256) off S1x16x128.size inb).emb (ix3 0 r l) = ix3 ⟨g, hg⟩ ⟨a + r.val, by omega⟩ ⟨b + l.val, by omega⟩ := by
  subst h
  funext d
  apply Fin.ext
  match d with
  | ⟨0, _⟩ => exact Nat.add_zero _
  | ⟨1, _⟩ => exact congrArg (a + ·) (Nat.one_mul _)
  | ⟨2, _⟩ => exact congrArg (b + ·) (Nat.one_mul _)

/-- An index of a piece is its row and its lane. -/
theorem ix_piece (j : S1x16x128.Idx) : j = ix3 0 (j 1 : Fin 16) (j 2 : Fin 128) := by
  funext a
  match a with
  | ⟨0, _⟩ => exact Subsingleton.elim (α := Fin 1) _ _
  | ⟨1, _⟩ => rfl
  | ⟨2, _⟩ => rfl

/-- A piece of the first 16 rows is a part of the scratch's contents. -/
theorem xeven_grid_ix (x : Vec Ideal S16x8192 .bf16) (off : Fin 3 → ℕ) (g : ℕ) (h : Fin 2) (hoff : off = ![g, 0, 128 * h.val])
    (inb : ∀ a, off a + S1x16x128.size a ≤ S64x32x256.size a) (hg : g < 64) (v : Vec Ideal S16x128 .bf16)
    (hv : ∀ (r : Fin 16) (l : Fin 128), v (ix2 r l) = x (ix2 r ⟨128 * g + l.val, by omega⟩)) (r : Fin 16) (l : Fin 128) :
    XEVEN (BitVec.ofNat 32 (64 * h.val)) v (ix3 0 r l) = XGRID x ((Rect.unit (s := S64x32x256) off S1x16x128.size inb).emb (ix3 0 r l)) := by
  rw [xeven_apply h, xp_emb off g 0 (128 * h.val) hoff inb hg (by omega) (by omega), xgrid_apply]
  unfold XAT
  rw [dif_pos ⟨hg, by show 128 * h.val + l.val < 256; omega⟩]
  by_cases hl : l.val % 2 = 0
  · rw [if_pos hl, if_pos (by show (0 + r.val) / 16 = (128 * h.val + l.val) % 2; omega), hv]
    refine congrArg x (congrArg₂ ix2 (Fin.ext ?_) (Fin.ext ?_))
    · show r.val = (0 + r.val) % 16; omega
    · show 128 * g + (l.val / 2 + 64 * h.val) = 128 * g + (128 * h.val + l.val) / 2; omega
  · rw [if_neg hl, if_neg (by show ¬ (0 + r.val) / 16 = (128 * h.val + l.val) % 2; omega)]

/-- The pieces of rows 0 to 15 are parts of the expanded activations. -/
theorem xeven_grid (x : Vec Ideal S16x8192 .bf16) (off : Fin 3 → ℕ) (g : ℕ) (h : Fin 2) (hoff : off = ![g, 0, 128 * h.val])
    (inb : ∀ a, off a + S1x16x128.size a ≤ S64x32x256.size a) (hg : g < 64) (v : Vec Ideal S16x128 .bf16)
    (hv : ∀ (r : Fin 16) (l : Fin 128), v (ix2 r l) = x (ix2 r ⟨128 * g + l.val, by omega⟩)) (j : S1x16x128.Idx) :
    XEVEN (BitVec.ofNat 32 (64 * h.val)) v j = XGRID x ((Rect.unit (s := S64x32x256) off S1x16x128.size inb).emb j) := by
  rw [ix_piece j]
  exact xeven_grid_ix x off g h hoff inb hg v hv _ _

/-- A piece of the last 16 rows likewise. -/
theorem xodd_grid_ix (x : Vec Ideal S16x8192 .bf16) (off : Fin 3 → ℕ) (g : ℕ) (h : Fin 2) (hoff : off = ![g, 16, 128 * h.val])
    (inb : ∀ a, off a + S1x16x128.size a ≤ S64x32x256.size a) (hg : g < 64) (v : Vec Ideal S16x128 .bf16)
    (hv : ∀ (r : Fin 16) (l : Fin 128), v (ix2 r l) = x (ix2 r ⟨128 * g + l.val, by omega⟩)) (r : Fin 16) (l : Fin 128) :
    XODD (BitVec.ofNat 32 (64 * h.val)) v (ix3 0 r l) = XGRID x ((Rect.unit (s := S64x32x256) off S1x16x128.size inb).emb (ix3 0 r l)) := by
  rw [xodd_apply h, xp_emb off g 16 (128 * h.val) hoff inb hg (by omega) (by omega), xgrid_apply]
  unfold XAT
  rw [dif_pos ⟨hg, by show 128 * h.val + l.val < 256; omega⟩]
  by_cases hl : l.val % 2 = 0
  · rw [if_pos hl, if_neg (by show ¬ (16 + r.val) / 16 = (128 * h.val + l.val) % 2; omega)]
  · rw [if_neg hl, if_pos (by show (16 + r.val) / 16 = (128 * h.val + l.val) % 2; omega), hv]
    refine congrArg x (congrArg₂ ix2 (Fin.ext ?_) (Fin.ext ?_))
    · show r.val = (16 + r.val) % 16; omega
    · show 128 * g + (l.val / 2 + 64 * h.val) = 128 * g + (128 * h.val + l.val) / 2; omega

/-- The pieces of rows 16 to 31 are parts of the expanded activations. -/
theorem xodd_grid (x : Vec Ideal S16x8192 .bf16) (off : Fin 3 → ℕ) (g : ℕ) (h : Fin 2) (hoff : off = ![g, 16, 128 * h.val])
    (inb : ∀ a, off a + S1x16x128.size a ≤ S64x32x256.size a) (hg : g < 64) (v : Vec Ideal S16x128 .bf16)
    (hv : ∀ (r : Fin 16) (l : Fin 128), v (ix2 r l) = x (ix2 r ⟨128 * g + l.val, by omega⟩)) (j : S1x16x128.Idx) :
    XODD (BitVec.ofNat 32 (64 * h.val)) v j = XGRID x ((Rect.unit (s := S64x32x256) off S1x16x128.size inb).emb j) := by
  rw [ix_piece j]
  exact xodd_grid_ix x off g h hoff inb hg v hv _ _

/-- The offsets of the expansion loop. -/
theorem offs_t1 : ∀ k : Fin k0_t1_loop.trips, k0_off1 k = ![0, 128 * k.val] ∧ k0_off2 k = ![k.val, 0, 128 * (0 : Fin 2).val]
    ∧ k0_off3 k = ![k.val, 16, 128 * (0 : Fin 2).val] ∧ k0_off4 k = ![k.val, 0, 128 * (1 : Fin 2).val]
    ∧ k0_off5 k = ![k.val, 16, 128 * (1 : Fin 2).val] := by decide +kernel

/-- The expansion loop makes 64 trips. -/
theorem trips_t1 : k0_t1_loop.trips = 64 := by decide

/-- A load of one group of activations. -/
theorem ld_act (x : Vec Ideal S16x8192 .bf16) (off : Fin 2 → ℕ) (g : ℕ) (h : off = ![0, 128 * g]) (inb : ∀ a, off a + S16x128.size a ≤ S16x8192.size a)
    (hg : g < 64) (r : Fin 16) (l : Fin 128) : View.ld x (Rect.unit off S16x128.size inb) (ix2 r l) = x (ix2 r ⟨128 * g + l.val, by omega⟩) := by
  subst h; pointwise

/-- Every piece that a trip of the expansion loop stores is a part of the scratch's contents. -/
theorem trip_t1 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16)
    (k : Fin k0_t1_loop.trips) : ∀ pc ∈ tripL_k0_t1 (F := Ideal) Variants.none c none i arg1 harg1 arg2 harg2 arg3 harg3 arg4 harg4 arg5 harg5 arg6 harg6 arg7 harg7 arg8 harg8 hc0 (harg1.unread x0) k,
      ∀ j, pc.2 j = XGRID x0 (pc.1.emb j) := by
  have hk : k.val < 64 := k.isLt.trans_eq trips_t1
  obtain ⟨h1, h2, h3, h4, h5⟩ := offs_t1 k
  unfold tripL_k0_t1 trip_k0_t1
  dsimp only
  sl_unfold_run_names
  simp only [View.readAt_eq_ld, harg1.read_unread]
  refine List.forall_mem_cons.2 ⟨fun j => ?_, List.forall_mem_cons.2 ⟨fun j => ?_, List.forall_mem_cons.2 ⟨fun j => ?_,
    List.forall_mem_cons.2 ⟨fun j => ?_, fun _ h => nomatch h⟩⟩⟩⟩
  · exact (congrFun (pay15_eq _) j).trans (xodd_grid x0 _ _ 1 h5 (k0_off5_inb i k hc0) hk _ (fun r l => ld_act x0 _ _ h1 (k0_off1_inb i k hc0) hk r l) j)
  · exact (congrFun (pay14_eq _) j).trans (xeven_grid x0 _ _ 1 h4 (k0_off4_inb i k hc0) hk _ (fun r l => ld_act x0 _ _ h1 (k0_off1_inb i k hc0) hk r l) j)
  · exact (congrFun (pay10_eq _) j).trans (xodd_grid x0 _ _ 0 h3 (k0_off3_inb i k hc0) hk _ (fun r l => ld_act x0 _ _ h1 (k0_off1_inb i k hc0) hk r l) j)
  · exact (congrFun (pay8_eq _) j).trans (xeven_grid x0 _ _ 0 h2 (k0_off2_inb i k hc0) hk _ (fun r l => ld_act x0 _ _ h1 (k0_off1_inb i k hc0) hk r l) j)

/-- All the pieces stored by the first `n` trips are parts of the expanded activations. -/
theorem pieces_t1 (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16) : ∀ n : ℕ, n ≤ 64 →
    ∀ pc ∈ pb_k0_t1 (F := Ideal) Variants.none c none i arg1 harg1 arg2 harg2 arg3 harg3 arg4 harg4 arg5 harg5 arg6 harg6 arg7 harg7 arg8 harg8 hc0 (harg1.unread x0) n, ∀ j, pc.2 j = XGRID x0 (pc.1.emb j)
  | 0, _ => fun _ h => nomatch h
  | n + 1, h => by
    have hk : n < k0_t1_loop.trips := by rw [trips_t1]; omega
    intro pc hpc
    rw [pb_k0_t1_succ (F := Ideal) Variants.none c none i arg1 harg1 arg2 harg2 arg3 harg3 arg4 harg4 arg5 harg5 arg6 harg6 arg7 harg7 arg8 harg8 hc0 (harg1.unread x0) ⟨n, hk⟩] at hpc
    rcases List.mem_append.1 hpc with hpc | hpc
    · exact trip_t1 c i arg1 harg1 arg2 harg2 arg3 harg3 arg4 harg4 arg5 harg5 arg6 harg6 arg7 harg7 arg8 harg8 hc0 x0 ⟨n, hk⟩ pc hpc
    · exact pieces_t1 c i arg1 harg1 arg2 harg2 arg3 harg3 arg4 harg4 arg5 harg5 arg6 harg6 arg7 harg7 arg8 harg8 hc0 x0 n (by omega) pc hpc

/-- After the expansion loop the scratch reads as the expanded activations, whatever it held before. -/
theorem read_x (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16)
    (f : BufTy.Contents (Elt Ideal) arg6.view.ty) :
    arg6.view.read (Elt Ideal) (arg6.view.writes (Elt Ideal) f (pb_k0_t1 (F := Ideal) Variants.none c none i arg1 harg1 arg2 harg2 arg3 harg3 arg4 harg4 arg5 harg5 arg6 harg6 arg7 harg7 arg8 harg8 hc0 (harg1.unread x0)
      (Scf.trips k0_t1_loop.lb k0_t1_loop.ub k0_t1_loop.st))) = XGRID x0 := by
  funext y
  exact View.read_writes_apply_of_pieces _ f (XGRID x0) _ (pieces_t1 c i arg1 harg1 arg2 harg2 arg3 harg3 arg4 harg4 arg5 harg5 arg6 harg6 arg7 harg7 arg8 harg8 hc0 x0 _ (le_of_eq trips_t1)) y
    (xcover c i arg1 harg1 arg2 harg2 arg3 harg3 arg4 harg4 arg5 harg5 arg6 harg6 arg7 harg7 arg8 harg8 hc0 x0 y)

end Cert.KernelIdeal.Val

end
-- ==== Proof.OutList.lean ====
/- The pieces that the body stores into the output block, as functions of the two accumulators. -/
module

public import proofs.«01_k».proof.Proof.OutPay
public import proofs.«01_k».proof.Proof.Grids
public import proofs.«01_k».proof.Proof.XGrid

@[expose] public section

set_option maxRecDepth 16384

noncomputable section

namespace Cert.KernelIdeal.Val

open Cert.KernelIdeal Cert.KernelIdeal.Gen Idealize.ShloMosaic Idealize.ShloMosaic.TcCoe Idealize.ShloMosaic.Tactic

/-- Every piece lies in the block. -/
theorem inb_out : ∀ t c h : Fin 2, ∀ a, (![0, 512 * t.val + 256 * c.val + 128 * h.val] : Fin 2 → ℕ) a + S16x128.size a ≤ S16x1024.size a := by decide

/-- The piece of tile `t`, column block `c`, half `h`, from the tile's accumulator. -/
def OP (t c h : Fin 2) (v : FVec Ideal S32x256 .f32) : View.Piece (Elt Ideal) S16x1024 .bf16 :=
  ⟨Rect.unit ![0, 512 * t.val + 256 * c.val + 128 * h.val] S16x128.size (inb_out t c h), OPAY c (BitVec.ofNat 32 (64 * h.val)) v⟩

/-- The eight pieces, in the reverse order of their stores. -/
def OLIST (v w : FVec Ideal S32x256 .f32) : List (View.Piece (Elt Ideal) S16x1024 .bf16) :=
  [OP 1 1 1 w, OP 1 1 0 w, OP 1 0 1 w, OP 1 0 0 w, OP 0 1 1 v, OP 0 1 0 v, OP 0 0 1 v, OP 0 0 0 v]

/-- The pieces that the first grid point stores into the output block. -/
theorem list_o_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16) (x1 : Vec Ideal S8192x512 .i8) (x2 : Vec Ideal S64x512 .i8) (x3 : Vec Ideal S64x1024 .bf16) :
    (kernelRun0_A (F := Ideal) c i arg1 harg1 arg2 harg2 arg3 harg3 arg4 harg4 arg5 harg5 arg6 harg6 arg7 harg7 arg8 harg8 hc0 x0 x1 x2 x3).1
      = OLIST (st_k0_t2 (F := Ideal) Variants.none c none i arg1 harg1 arg2 harg2 arg3 harg3 arg4 harg4 arg5 harg5 arg6 harg6 arg7 harg7 arg8 harg8 runA0.sl.cst (harg2.unread x1) (arg6.view.writes (Elt Ideal) arg6.view.junk (pb_k0_t1 (F := Ideal) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)))
        (arg7.view.writes (Elt Ideal) arg7.view.junk (runA0.sl.HS1_1 c arg3 harg3 x2))
        (arg8.view.writes (Elt Ideal) arg8.view.junk (runA0.sl.HS2_32 c arg4 harg4 x3)) (k0_pay344 runA0.sl.cst) (Scf.trips k0_t2_loop.lb k0_t2_loop.ub k0_t2_loop.st))
          (st_k0_t3 (F := Ideal) Variants.none c none i arg1 harg1 arg2 harg2 arg3 harg3 arg4 harg4 arg5 harg5 arg6 harg6 arg7 harg7 arg8 harg8 k0_pay352 (runA0.sl.r_164 c i arg1 harg1 arg2 harg2 arg3 harg3 arg4 harg4 arg5 harg5 arg6 harg6 arg7 harg7 arg8 harg8 hc0 x0 x1 x2 x3 arg6.view.junk) (runA0.sl.r_165 c i arg1 harg1 arg2 harg2 arg3 harg3 arg4 harg4 arg5 harg5 arg6 harg6 arg7 harg7 arg8 harg8 hc0 x0 x1 x2 x3 arg6.view.junk) (k0_pay370 runA0.sl.v1515) (runA0.sl.r_166 c i arg1 harg1 arg2 harg2 arg3 harg3 arg4 harg4 arg5 harg5 arg6 harg6 arg7 harg7 arg8 harg8 hc0 x0 x1 x2 x3 arg6.view.junk) (k0_pay372 runA0.sl.v1515) (k0_pay373 runA0.sl.v1515) (k0_pay374 runA0.sl.v1515) (harg2.unread x1) (arg6.view.writes (Elt Ideal) arg6.view.junk (pb_k0_t1 (F := Ideal) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)))
        (arg7.view.writes (Elt Ideal) arg7.view.junk (runA0.sl.HS1_1 c arg3 harg3 x2))
        (arg8.view.writes (Elt Ideal) arg8.view.junk (runA0.sl.HS2_32 c arg4 harg4 x3)) k0_pay376 (Scf.trips k0_t3_loop.lb k0_t3_loop.ub k0_t3_loop.st)) := rfl

/-- The pieces that the first grid point stores into the scratch of expanded activations. -/
theorem list_x_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16) (x1 : Vec Ideal S8192x512 .i8) (x2 : Vec Ideal S64x512 .i8) (x3 : Vec Ideal S64x1024 .bf16) :
    (kernelRun0_A (F := Ideal) c i arg1 harg1 arg2 harg2 arg3 harg3 arg4 harg4 arg5 harg5 arg6 harg6 arg7 harg7 arg8 harg8 hc0 x0 x1 x2 x3).2.1
      = pb_k0_t1 (F := Ideal) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st) := by
  show (runA0 (F := Ideal) c i arg1 harg1 arg2 harg2 arg3 harg3 arg4 harg4 arg5 harg5 arg6 harg6 arg7 harg7 arg8 harg8 hc0 x0 x1 x2 x3 arg6.view.junk).2.1 = _
  unfold runA0
  dsimp only

/-- The pieces that a later grid point stores into the output block. -/
theorem list_o_B (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i) (x0 : Vec Ideal S16x8192 .bf16) (x1 : Vec Ideal S8192x512 .i8) (x2 : Vec Ideal S64x512 .i8) (x3 : Vec Ideal S64x1024 .bf16) (xs0 : Vec Ideal S64x32x256 .bf16) :
    (kernelRun0_B (F := Ideal) c i arg1 harg1 arg2 harg2 arg3 harg3 arg4 harg4 arg5 harg5 arg6 harg6 arg7 harg7 arg8 harg8 hc0 x0 x1 x2 x3 xs0).1
      = OLIST (st_k0_t2 (F := Ideal) Variants.none c none i arg1 harg1 arg2 harg2 arg3 harg3 arg4 harg4 arg5 harg5 arg6 harg6 arg7 harg7 arg8 harg8 kernelRun0_B.sl.cst (harg2.unread x1) (harg6.unread xs0)
        (arg7.view.writes (Elt Ideal) arg7.view.junk (kernelRun0_B.sl.HS1_1 c arg3 harg3 x2))
        (arg8.view.writes (Elt Ideal) arg8.view.junk (kernelRun0_B.sl.HS2_32 c arg4 harg4 x3)) (k0_pay344 kernelRun0_B.sl.cst) (Scf.trips k0_t2_loop.lb k0_t2_loop.ub k0_t2_loop.st))
          (st_k0_t3 (F := Ideal) Variants.none c none i arg1 harg1 arg2 harg2 arg3 harg3 arg4 harg4 arg5 harg5 arg6 harg6 arg7 harg7 arg8 harg8 k0_pay352 (kernelRun0_B.sl.r_164 c i arg1 harg1 arg2 harg2 arg3 harg3 arg4 harg4 arg5 harg5 arg6 harg6 arg7 harg7 arg8 harg8 x1 x2 x3 xs0) (kernelRun0_B.sl.r_165 c i arg1 harg1 arg2 harg2 arg3 harg3 arg4 harg4 arg5 harg5 arg6 harg6 arg7 harg7 arg8 harg8 x1 x2 x3 xs0) (k0_pay370 kernelRun0_B.sl.v1515) (kernelRun0_B.sl.r_166 c i arg1 harg1 arg2 harg2 arg3 harg3 arg4 harg4 arg5 harg5 arg6 harg6 arg7 harg7 arg8 harg8 x1 x2 x3 xs0) (k0_pay372 kernelRun0_B.sl.v1515) (k0_pay373 kernelRun0_B.sl.v1515) (k0_pay374 kernelRun0_B.sl.v1515) (harg2.unread x1) (harg6.unread xs0)
        (arg7.view.writes (Elt Ideal) arg7.view.junk (kernelRun0_B.sl.HS1_1 c arg3 harg3 x2))
        (arg8.view.writes (Elt Ideal) arg8.view.junk (kernelRun0_B.sl.HS2_32 c arg4 harg4 x3)) k0_pay376 (Scf.trips k0_t3_loop.lb k0_t3_loop.ub k0_t3_loop.st)) := rfl

end Cert.KernelIdeal.Val

end
-- ==== Proof.Block.lean ====
/- What the body leaves in the output block, at exact arithmetic: one sum for each place. -/
module

public import proofs.«01_k».proof.Proof.OutList
public import proofs.«01_k».proof.Proof.IFrame

@[expose] public section

set_option maxRecDepth 16384

noncomputable section

namespace Cert.KernelIdeal.Val

open Cert.KernelIdeal Cert.KernelIdeal.Gen Idealize.ShloMosaic Idealize.ShloMosaic.TcCoe Idealize.ShloMosaic.Tactic

/-- The accumulator of tile `t` after all the groups. -/
def YACC (q : Vec Ideal S8192x512 .i8) (x : Vec Ideal S64x32x256 .bf16) (z : Vec Ideal S64x2x512 .bf16) (s : Vec Ideal S2x32x2x512 .bf16)
    (t : Fin 2) : FVec Ideal S32x256 .f32 :=
  fun j => ∑ g ∈ Finset.range 64, GROUPN q x z s t g (j 0) (j 1)

/-- The output block: column `n` of token row `r` comes from tile `n / 512`, row `16 (n mod 2) + r`, lane `(n mod 512) / 2`. -/
def YBLK (q : Vec Ideal S8192x512 .i8) (x : Vec Ideal S64x32x256 .bf16) (z : Vec Ideal S64x2x512 .bf16) (s : Vec Ideal S2x32x2x512 .bf16) :
    Vec Ideal S16x1024 .bf16 :=
  fun j => YACC q x z s ⟨(j 1).val / 512, by have : (j 1).val < 1024 := (j 1).isLt; omega⟩
    (ix2 ⟨16 * ((j 1).val % 2) + (j 0).val, by have : (j 0).val < 16 := (j 0).isLt; omega⟩ ⟨(j 1).val % 512 / 2, by omega⟩)

/-- Where an entry of a piece of the output lies in the block. -/
theorem op_emb (t c h : Fin 2) (r : Fin 16) (l : Fin 128) :
    (Rect.unit (s := S16x1024) ![0, 512 * t.val + 256 * c.val + 128 * h.val] S16x128.size (inb_out t c h)).emb (ix2 r l)
      = ix2 r ⟨512 * t.val + 256 * c.val + 128 * h.val + l.val, by omega⟩ := by
  funext a
  apply Fin.ext
  match a with
  | ⟨0, _⟩ => exact (Nat.zero_add _).trans (Nat.one_mul _)
  | ⟨1, _⟩ => exact congrArg (512 * t.val + 256 * c.val + 128 * h.val + ·) (Nat.one_mul _)

/-- The output block at a place whose tile, row and lane are given. -/
theorem yblk_ix (q : Vec Ideal S8192x512 .i8) (x : Vec Ideal S64x32x256 .bf16) (z : Vec Ideal S64x2x512 .bf16) (s : Vec Ideal S2x32x2x512 .bf16)
    (r : Fin 16) (n : Fin 1024) (t : Fin 2) (ht : n.val / 512 = t.val) (R : Fin 32) (hR : 16 * (n.val % 2) + r.val = R.val) (L : Fin 256) (hL : n.val % 512 / 2 = L.val) :
    YBLK q x z s (ix2 r n) = YACC q x z s t (ix2 R L) := by
  exact congrArg₂ (fun a b => YACC q x z s a b) (Fin.ext ht) (congrArg₂ (fun a b => ix2 a b) (Fin.ext hR) (Fin.ext hL))

/-- What a piece stores at row `r`, lane `l` is the output block there. -/
theorem op_blk_ix (q : Vec Ideal S8192x512 .i8) (x : Vec Ideal S64x32x256 .bf16) (z : Vec Ideal S64x2x512 .bf16) (s : Vec Ideal S2x32x2x512 .bf16)
    (t c h : Fin 2) (r : Fin 16) (l : Fin 128) :
    OPAY c (BitVec.ofNat 32 (64 * h.val)) (YACC q x z s t) (ix2 r l)
      = YBLK q x z s ((Rect.unit (s := S16x1024) ![0, 512 * t.val + 256 * c.val + 128 * h.val] S16x128.size (inb_out t c h)).emb (ix2 r l)) := by
  rw [opay_apply, op_emb]
  exact (yblk_ix q x z s _ _ t (by show (512 * t.val + 256 * c.val + 128 * h.val + l.val) / 512 = _; omega) _
    (by show 16 * ((512 * t.val + 256 * c.val + 128 * h.val + l.val) % 2) + _ = 16 * (l.val % 2) + r.val; omega) _
    (by show (512 * t.val + 256 * c.val + 128 * h.val + l.val) % 512 / 2 = 128 * c.val + (l.val / 2 + 64 * h.val); omega)).symm

/-- Every entry of a piece is the output block at the place where it lies. -/
theorem op_blk (q : Vec Ideal S8192x512 .i8) (x : Vec Ideal S64x32x256 .bf16) (z : Vec Ideal S64x2x512 .bf16) (s : Vec Ideal S2x32x2x512 .bf16)
    (t c h : Fin 2) (j : S16x128.Idx) : (OP t c h (YACC q x z s t)).2 j = YBLK q x z s ((OP t c h (YACC q x z s t)).1.emb j) := by
  rw [eq_ix2 (n0 := 16) (n1 := 128) j]
  exact op_blk_ix q x z s t c h _ _

/-- Every entry of each of the eight pieces is the output block at the place where it lies. -/
theorem olist_grid (q : Vec Ideal S8192x512 .i8) (x : Vec Ideal S64x32x256 .bf16) (z : Vec Ideal S64x2x512 .bf16) (s : Vec Ideal S2x32x2x512 .bf16) :
    ∀ pc ∈ OLIST (YACC q x z s 0) (YACC q x z s 1), ∀ j, pc.2 j = YBLK q x z s (pc.1.emb j) := by
  unfold OLIST
  repeat' (refine List.forall_mem_cons.2 ⟨op_blk q x z s _ _ _, ?_⟩)
  exact fun _ h => nomatch h

/-- The eight pieces cover the output block. -/
theorem olist_cover (v w : FVec Ideal S32x256 .f32) (y : S16x1024.Idx) : ∃ pc ∈ OLIST v w, y ∈ pc.1.set :=
  View.cover_of_tiledL (OLIST v w) S16x128.size (by sl_kernel_rfl) y

/-- The block that the eight pieces were stored into reads as the output block. -/
theorem read_o (f : BufTy.Contents (Elt Ideal) VO0_4.ty) (q : Vec Ideal S8192x512 .i8) (x : Vec Ideal S64x32x256 .bf16) (z : Vec Ideal S64x2x512 .bf16) (s : Vec Ideal S2x32x2x512 .bf16) :
    VO0_4.read (Elt Ideal) (VO0_4.writes (Elt Ideal) f (OLIST (YACC q x z s 0) (YACC q x z s 1))) = YBLK q x z s := by
  funext y
  exact View.read_writes_apply_of_pieces _ f (YBLK q x z s) _ (olist_grid q x z s) y (olist_cover _ _ y)

/-- Tile 0's accumulator starts at zero. -/
theorem zero_t2 (j : S32x256.Idx) : k0_pay344 (F := Ideal) (FloatOps.ofBits .f32 0x00000000) j = 0 := by
  unfold k0_pay344; pointwise; exact Ideal.ofBits_zero_f32

/-- Tile 1's accumulator starts at zero. -/
theorem zero_t3 (j : S32x256.Idx) : k0_pay376 (F := Ideal) j = 0 := by
  unfold k0_pay376; pointwise

/-- Tile 0's accumulator after its loop over the groups (the first grid point). -/
theorem acc_t2_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16) (x1 : Vec Ideal S8192x512 .i8) (x2 : Vec Ideal S64x512 .i8) (x3 : Vec Ideal S64x1024 .bf16) :
    (st_k0_t2 (F := Ideal) Variants.none c none i arg1 harg1 arg2 harg2 arg3 harg3 arg4 harg4 arg5 harg5 arg6 harg6 arg7 harg7 arg8 harg8 runA0.sl.cst (harg2.unread x1) (arg6.view.writes (Elt Ideal) arg6.view.junk (pb_k0_t1 (F := Ideal) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)))
        (arg7.view.writes (Elt Ideal) arg7.view.junk (runA0.sl.HS1_1 c arg3 harg3 x2))
        (arg8.view.writes (Elt Ideal) arg8.view.junk (runA0.sl.HS2_32 c arg4 harg4 x3)) (k0_pay344 runA0.sl.cst) (Scf.trips k0_t2_loop.lb k0_t2_loop.ub k0_t2_loop.st))
      = YACC x1 (XGRID x0) (ZGRID x2) (SGRID x3) 0 := by
  funext j
  refine (congrArg _ (eq_ix2 (n0 := 32) (n1 := 256) j)).trans ?_
  refine (loop_t2 c i arg1 harg1 arg2 harg2 arg3 harg3 arg4 harg4 arg5 harg5 arg6 harg6 arg7 harg7 arg8 harg8 _ _ _ _ _ _ (j 0) (j 1) _ (le_of_eq trips_t2)).trans ?_
  rw [list_z_A, list_s_A, harg3.read_unread, harg4.read_unread, harg2.read_unread, read_x c i arg1 harg1 arg2 harg2 arg3 harg3 arg4 harg4 arg5 harg5 arg6 harg6 arg7 harg7 arg8 harg8 hc0 x0, read_z, read_s]
  refine (congrArg (· + _) (zero_t2 _)).trans ((zero_add _).trans ?_)
  show ∑ g ∈ Finset.range (Scf.trips k0_t2_loop.lb k0_t2_loop.ub k0_t2_loop.st), _ = ∑ g ∈ Finset.range 64, _
  exact congrArg (fun n => ∑ g ∈ Finset.range n, GROUPN x1 (XGRID x0) (ZGRID x2) (SGRID x3) 0 g (j 0) (j 1)) trips_t2

/-- Tile 1's accumulator after its loop over the groups (the first grid point). -/
theorem acc_t3_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16) (x1 : Vec Ideal S8192x512 .i8) (x2 : Vec Ideal S64x512 .i8) (x3 : Vec Ideal S64x1024 .bf16) :
    (st_k0_t3 (F := Ideal) Variants.none c none i arg1 harg1 arg2 harg2 arg3 harg3 arg4 harg4 arg5 harg5 arg6 harg6 arg7 harg7 arg8 harg8 k0_pay352 (runA0.sl.r_164 c i arg1 harg1 arg2 harg2 arg3 harg3 arg4 harg4 arg5 harg5 arg6 harg6 arg7 harg7 arg8 harg8 hc0 x0 x1 x2 x3 arg6.view.junk) (runA0.sl.r_165 c i arg1 harg1 arg2 harg2 arg3 harg3 arg4 harg4 arg5 harg5 arg6 harg6 arg7 harg7 arg8 harg8 hc0 x0 x1 x2 x3 arg6.view.junk) (k0_pay370 runA0.sl.v1515) (runA0.sl.r_166 c i arg1 harg1 arg2 harg2 arg3 harg3 arg4 harg4 arg5 harg5 arg6 harg6 arg7 harg7 arg8 harg8 hc0 x0 x1 x2 x3 arg6.view.junk) (k0_pay372 runA0.sl.v1515) (k0_pay373 runA0.sl.v1515) (k0_pay374 runA0.sl.v1515) (harg2.unread x1) (arg6.view.writes (Elt Ideal) arg6.view.junk (pb_k0_t1 (F := Ideal) Variants.none c none i arg1 harg1 arg2 harg2 arg3 harg3 arg4 harg4 arg5 harg5 arg6 harg6 arg7 harg7 arg8 harg8 hc0 (harg1.unread x0) (Scf.trips k0_t1_loop.lb k0_t1_loop.ub k0_t1_loop.st)))
        (arg7.view.writes (Elt Ideal) arg7.view.junk (runA0.sl.HS1_1 c arg3 harg3 x2))
        (arg8.view.writes (Elt Ideal) arg8.view.junk (runA0.sl.HS2_32 c arg4 harg4 x3)) k0_pay376 (Scf.trips k0_t3_loop.lb k0_t3_loop.ub k0_t3_loop.st))
      = YACC x1 (XGRID x0) (ZGRID x2) (SGRID x3) 1 := by
  funext j
  refine (congrArg _ (eq_ix2 (n0 := 32) (n1 := 256) j)).trans ?_
  refine (loop_t3 c i arg1 harg1 arg2 harg2 arg3 harg3 arg4 harg4 arg5 harg5 arg6 harg6 arg7 harg7 arg8 harg8 _ _ _ _ _ _ _ _ _ _ _ _ _ (j 0) (j 1) _ (le_of_eq trips_t3)).trans ?_
  rw [list_z_A, list_s_A, harg3.read_unread, harg4.read_unread, harg2.read_unread, read_x c i arg1 harg1 arg2 harg2 arg3 harg3 arg4 harg4 arg5 harg5 arg6 harg6 arg7 harg7 arg8 harg8 hc0 x0, read_z, read_s]
  refine (congrArg (· + _) (zero_t3 _)).trans ((zero_add _).trans ?_)
  show ∑ g ∈ Finset.range (Scf.trips k0_t3_loop.lb k0_t3_loop.ub k0_t3_loop.st), _ = ∑ g ∈ Finset.range 64, _
  exact congrArg (fun n => ∑ g ∈ Finset.range n, GROUPN x1 (XGRID x0) (ZGRID x2) (SGRID x3) 1 g (j 0) (j 1)) trips_t3

/-- What the first grid point leaves in the output block. -/
theorem out_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16) (x1 : Vec Ideal S8192x512 .i8) (x2 : Vec Ideal S64x512 .i8) (x3 : Vec Ideal S64x1024 .bf16) :
    out0_A_4 (F := Ideal) c i arg1 harg1 arg2 harg2 arg3 harg3 arg4 harg4 arg5 harg5 arg6 harg6 arg7 harg7 arg8 harg8 hc0 x0 x1 x2 x3 = YBLK x1 (XGRID x0) (ZGRID x2) (SGRID x3) := by
  unfold out0_A_4
  rw [list_o_A, acc_t2_A c i arg1 harg1 arg2 harg2 arg3 harg3 arg4 harg4 arg5 harg5 arg6 harg6 arg7 harg7 arg8 harg8 hc0 x0 x1 x2 x3, acc_t3_A c i arg1 harg1 arg2 harg2 arg3 harg3 arg4 harg4 arg5 harg5 arg6 harg6 arg7 harg7 arg8 harg8 hc0 x0 x1 x2 x3]
  exact read_o _ _ _ _ _

/-- Tile 0's accumulator after its loop over the groups (later grid points). -/
theorem acc_t2_B (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i) (x0 : Vec Ideal S16x8192 .bf16) (x1 : Vec Ideal S8192x512 .i8) (x2 : Vec Ideal S64x512 .i8) (x3 : Vec Ideal S64x1024 .bf16) (xs0 : Vec Ideal S64x32x256 .bf16) :
    (st_k0_t2 (F := Ideal) Variants.none c none i arg1 harg1 arg2 harg2 arg3 harg3 arg4 harg4 arg5 harg5 arg6 harg6 arg7 harg7 arg8 harg8 kernelRun0_B.sl.cst (harg2.unread x1) (harg6.unread xs0)
        (arg7.view.writes (Elt Ideal) arg7.view.junk (kernelRun0_B.sl.HS1_1 c arg3 harg3 x2))
        (arg8.view.writes (Elt Ideal) arg8.view.junk (kernelRun0_B.sl.HS2_32 c arg4 harg4 x3)) (k0_pay344 kernelRun0_B.sl.cst) (Scf.trips k0_t2_loop.lb k0_t2_loop.ub k0_t2_loop.st))
      = YACC x1 xs0 (ZGRID x2) (SGRID x3) 0 := by
  funext j
  refine (congrArg _ (eq_ix2 (n0 := 32) (n1 := 256) j)).trans ?_
  refine (loop_t2 c i arg1 harg1 arg2 harg2 arg3 harg3 arg4 harg4 arg5 harg5 arg6 harg6 arg7 harg7 arg8 harg8 _ _ _ _ _ _ (j 0) (j 1) _ (le_of_eq trips_t2)).trans ?_
  rw [list_z_B, list_s_B, harg3.read_unread, harg4.read_unread, harg2.read_unread, harg6.read_unread, read_z, read_s]
  refine (congrArg (· + _) (zero_t2 _)).trans ((zero_add _).trans ?_)
  show ∑ g ∈ Finset.range (Scf.trips k0_t2_loop.lb k0_t2_loop.ub k0_t2_loop.st), _ = ∑ g ∈ Finset.range 64, _
  exact congrArg (fun n => ∑ g ∈ Finset.range n, GROUPN x1 xs0 (ZGRID x2) (SGRID x3) 0 g (j 0) (j 1)) trips_t2

/-- Tile 1's accumulator after its loop over the groups (later grid points). -/
theorem acc_t3_B (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i) (x0 : Vec Ideal S16x8192 .bf16) (x1 : Vec Ideal S8192x512 .i8) (x2 : Vec Ideal S64x512 .i8) (x3 : Vec Ideal S64x1024 .bf16) (xs0 : Vec Ideal S64x32x256 .bf16) :
    (st_k0_t3 (F := Ideal) Variants.none c none i arg1 harg1 arg2 harg2 arg3 harg3 arg4 harg4 arg5 harg5 arg6 harg6 arg7 harg7 arg8 harg8 k0_pay352 (kernelRun0_B.sl.r_164 c i arg1 harg1 arg2 harg2 arg3 harg3 arg4 harg4 arg5 harg5 arg6 harg6 arg7 harg7 arg8 harg8 x1 x2 x3 xs0) (kernelRun0_B.sl.r_165 c i arg1 harg1 arg2 harg2 arg3 harg3 arg4 harg4 arg5 harg5 arg6 harg6 arg7 harg7 arg8 harg8 x1 x2 x3 xs0) (k0_pay370 kernelRun0_B.sl.v1515) (kernelRun0_B.sl.r_166 c i arg1 harg1 arg2 harg2 arg3 harg3 arg4 harg4 arg5 harg5 arg6 harg6 arg7 harg7 arg8 harg8 x1 x2 x3 xs0) (k0_pay372 kernelRun0_B.sl.v1515) (k0_pay373 kernelRun0_B.sl.v1515) (k0_pay374 kernelRun0_B.sl.v1515) (harg2.unread x1) (harg6.unread xs0)
        (arg7.view.writes (Elt Ideal) arg7.view.junk (kernelRun0_B.sl.HS1_1 c arg3 harg3 x2))
        (arg8.view.writes (Elt Ideal) arg8.view.junk (kernelRun0_B.sl.HS2_32 c arg4 harg4 x3)) k0_pay376 (Scf.trips k0_t3_loop.lb k0_t3_loop.ub k0_t3_loop.st))
      = YACC x1 xs0 (ZGRID x2) (SGRID x3) 1 := by
  funext j
  refine (congrArg _ (eq_ix2 (n0 := 32) (n1 := 256) j)).trans ?_
  refine (loop_t3 c i arg1 harg1 arg2 harg2 arg3 harg3 arg4 harg4 arg5 harg5 arg6 harg6 arg7 harg7 arg8 harg8 _ _ _ _ _ _ _ _ _ _ _ _ _ (j 0) (j 1) _ (le_of_eq trips_t3)).trans ?_
  rw [list_z_B, list_s_B, harg3.read_unread, harg4.read_unread, harg2.read_unread, harg6.read_unread, read_z, read_s]
  refine (congrArg (· + _) (zero_t3 _)).trans ((zero_add _).trans ?_)
  show ∑ g ∈ Finset.range (Scf.trips k0_t3_loop.lb k0_t3_loop.ub k0_t3_loop.st), _ = ∑ g ∈ Finset.range 64, _
  exact congrArg (fun n => ∑ g ∈ Finset.range n, GROUPN x1 xs0 (ZGRID x2) (SGRID x3) 1 g (j 0) (j 1)) trips_t3

/-- What a later grid point leaves in the output block. -/
theorem out_B (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : ¬cond0_0 i) (x0 : Vec Ideal S16x8192 .bf16) (x1 : Vec Ideal S8192x512 .i8) (x2 : Vec Ideal S64x512 .i8) (x3 : Vec Ideal S64x1024 .bf16) (xs0 : Vec Ideal S64x32x256 .bf16) :
    out0_B_4 (F := Ideal) c i arg1 harg1 arg2 harg2 arg3 harg3 arg4 harg4 arg5 harg5 arg6 harg6 arg7 harg7 arg8 harg8 hc0 x0 x1 x2 x3 xs0 = YBLK x1 xs0 (ZGRID x2) (SGRID x3) := by
  unfold out0_B_4
  rw [list_o_B, acc_t2_B c i arg1 harg1 arg2 harg2 arg3 harg3 arg4 harg4 arg5 harg5 arg6 harg6 arg7 harg7 arg8 harg8 hc0 x0 x1 x2 x3 xs0, acc_t3_B c i arg1 harg1 arg2 harg2 arg3 harg3 arg4 harg4 arg5 harg5 arg6 harg6 arg7 harg7 arg8 harg8 hc0 x0 x1 x2 x3 xs0]
  exact read_o _ _ _ _ _

/-- What the first grid point leaves in the scratch of expanded activations. -/
theorem sout_A (c : Dev nD) (i : grid0.Coords) (arg1 : Memref sig .tc .vmem S16x8192 .bf16) (harg1 : arg1.IsWhole) (arg2 : Memref sig .tc .vmem S8192x512 .i8) (harg2 : arg2.IsWhole) (arg3 : Memref sig .tc .vmem S64x512 .i8) (harg3 : arg3.IsWhole) (arg4 : Memref sig .tc .vmem S64x1024 .bf16) (harg4 : arg4.IsWhole) (arg5 : Memref sig .tc .vmem S16x1024 .bf16) (harg5 : arg5.IsWhole) (arg6 : Memref sig .tc .vmem S64x32x256 .bf16) (harg6 : arg6.IsWhole) (arg7 : Memref sig .tc .vmem S64x2x512 .bf16) (harg7 : arg7.IsWhole) (arg8 : Memref sig .tc .vmem S2x32x2x512 .bf16) (harg8 : arg8.IsWhole) (hc0 : cond0_0 i) (x0 : Vec Ideal S16x8192 .bf16) (x1 : Vec Ideal S8192x512 .i8) (x2 : Vec Ideal S64x512 .i8) (x3 : Vec Ideal S64x1024 .bf16) :
    sout0_A_0 (F := Ideal) c i arg1 harg1 arg2 harg2 arg3 harg3 arg4 harg4 arg5 harg5 arg6 harg6 arg7 harg7 arg8 harg8 hc0 x0 x1 x2 x3 = XGRID x0 := by
  unfold sout0_A_0
  rw [list_x_A]
  funext y
  exact View.read_writes_apply_of_pieces _ _ (XGRID x0) _ (pieces_t1 c i arg1 harg1 arg2 harg2 arg3 harg3 arg4 harg4 arg5 harg5 arg6 harg6 arg7 harg7 arg8 harg8 hc0 x0 _ (le_of_eq trips_t1)) y
    (xcover c i arg1 harg1 arg2 harg2 arg3 harg3 arg4 harg4 arg5 harg5 arg6 harg6 arg7 harg7 arg8 harg8 hc0 x0 y)

end Cert.KernelIdeal.Val

end
-- ==== Proof.Collapse.lean ====
/- The output block in terms of the kernel's inputs: the expanded activations' zeros drop out, and each sum over the 256
   expanded rows of a group is the sum over its 128 weights. -/
module

public import proofs.«01_k».proof.Proof.Block

@[expose] public section

set_option maxRecDepth 16384

noncomputable section

namespace Cert.KernelIdeal.Val

open Cert.KernelIdeal Cert.KernelIdeal.Gen Idealize.ShloMosaic Idealize.ShloMosaic.TcCoe Idealize.ShloMosaic.Tactic

/-- A sum over 256 places is the sum over 128 pairs of neighbours. -/
theorem sum_pairs (F : Fin 256 → EReal) :
    ∑ k, F k = ∑ k : Fin 128, (F ⟨2 * k.val, by omega⟩ + F ⟨2 * k.val + 1, by omega⟩) := by
  rw [← Equiv.sum_comp (finProdFinEquiv (m := 128) (n := 2)) F, Fintype.sum_prod_type]
  refine Finset.sum_congr rfl fun k _ => ?_
  rw [Fin.sum_univ_two]
  refine congrArg₂ (· + ·) (congrArg F (Fin.ext ?_)) (congrArg F (Fin.ext ?_))
  · exact Nat.zero_add _
  · exact Nat.add_comm 1 _

/-- If only one of each two neighbours counts, the sum is over those. -/
theorem sum_parity (F : Fin 256 → EReal) (f : Fin 2) (h : ∀ k, k.val % 2 ≠ f.val → F k = 0) :
    ∑ k, F k = ∑ k : Fin 128, F ⟨2 * k.val + f.val, by omega⟩ := by
  rw [sum_pairs]
  refine Finset.sum_congr rfl fun k _ => ?_
  have hf : f = 0 ∨ f = 1 := by omega
  rcases hf with rfl | rfl
  · rw [h ⟨2 * k.val + 1, by omega⟩ (by show (2 * k.val + 1) % 2 ≠ 0; omega), add_zero]; rfl
  · rw [h ⟨2 * k.val, by omega⟩ (by show (2 * k.val) % 2 ≠ 1; omega), zero_add]; rfl

/-- Row `16 f + r` of the expanded activations is token row `r` at the places of parity `f`, and zero at the others. -/
theorem xgrid_on (x : Vec Ideal S16x8192 .bf16) (g : Fin 64) (f : Fin 2) (r : Fin 16) (R : Fin 32) (hR : R.val = 16 * f.val + r.val) (k : Fin 128) :
    XGRID x (ix3 g R ⟨2 * k.val + f.val, by omega⟩) = x (ix2 r ⟨128 * g.val + k.val, by omega⟩) := by
  rw [xgrid_apply]
  unfold XAT
  rw [dif_pos ⟨g.isLt, by show 2 * k.val + f.val < 256; omega⟩, if_pos (by show R.val / 16 = (2 * k.val + f.val) % 2; omega)]
  refine congrArg x (congrArg₂ (fun a b => ix2 a b) (Fin.ext ?_) (Fin.ext ?_))
  · show R.val % 16 = r.val; omega
  · show 128 * g.val + (2 * k.val + f.val) / 2 = 128 * g.val + k.val; omega

/-- An expanded activation is zero where the column's parity is not that of its half of the rows. -/
theorem xgrid_off (x : Vec Ideal S16x8192 .bf16) (g : Fin 64) (f : Fin 2) (r : Fin 16) (R : Fin 32) (hR : R.val = 16 * f.val + r.val) (k : Fin 256)
    (hk : k.val % 2 ≠ f.val) : XGRID x (ix3 g R k) = 0 := by
  rw [xgrid_apply]
  unfold XAT
  rw [dif_pos ⟨g.isLt, k.isLt⟩, if_neg (by omega)]

/-- The weight of row `k` of group `g` and packed column `l` of a block, nibble `f`. -/
def WBLK (q : Vec Ideal S8192x512 .i8) (z : Vec Ideal S64x512 .i8) (s : Vec Ideal S64x1024 .bf16) (g : Fin 64) (k : Fin 128) (l : Fin 512) (f : Fin 2) : EReal :=
  (NIB f.val (q (ix2 ⟨128 * g.val + k.val, by omega⟩ l)) - NIB f.val (z (ix2 g l))) * s (ix2 g ⟨2 * l.val + f.val, by omega⟩)

/-- A group's 256 products are 128 products of an activation and a weight. -/
theorem group_apply (x0 : Vec Ideal S16x8192 .bf16) (x1 : Vec Ideal S8192x512 .i8) (x2 : Vec Ideal S64x512 .i8) (x3 : Vec Ideal S64x1024 .bf16)
    (t : Fin 2) (g : Fin 64) (f : Fin 2) (r : Fin 16) (R : Fin 32) (hR : R.val = 16 * f.val + r.val) (L : Fin 256) (l : Fin 512) (hl : l.val = 256 * t.val + L.val) :
    GROUP x1 (XGRID x0) (ZGRID x2) (SGRID x3) t g R L
      = ∑ k : Fin 128, x0 (ix2 r ⟨128 * g.val + k.val, by omega⟩) * WBLK x1 x2 x3 g k l f := by
  unfold GROUP
  rw [sum_parity _ f fun k hk => by rw [xgrid_off x0 g f r R hR k hk, zero_mul]]
  refine Finset.sum_congr rfl fun k _ => ?_
  rw [xgrid_on x0 g f r R hR k]
  refine congrArg (x0 (ix2 r ⟨128 * g.val + k.val, by omega⟩) * ·) ?_
  unfold WBLK
  rw [zgrid_apply, sgrid_apply]
  have e1 : (2 * k.val + f.val) % 2 = f.val := by omega
  have e2 : (2 * k.val + f.val) / 2 = k.val := by omega
  refine congrArg₂ (· * ·) (congrArg₂ (· - ·) ?_ ?_) ?_
  · exact congrArg₂ NIB e1 (congrArg x1 (congrArg₂ (fun a b => ix2 a b) (Fin.ext (congrArg (128 * g.val + ·) e2)) (Fin.ext hl.symm)))
  · exact congrArg₂ NIB e1 (congrArg x2 (congrArg (ix2 g) (Fin.ext hl.symm)))
  · refine congrArg x3 (congrArg₂ (fun a b => ix2 a b) (Fin.ext ?_) (Fin.ext ?_))
    · show 2 * (g.val / 2) + g.val % 2 = g.val; omega
    · show 2 * (256 * t.val + L.val) + (2 * k.val + f.val) % 2 = 2 * l.val + f.val; omega

/-- The output block, place by place. -/
theorem yblk_apply (x0 : Vec Ideal S16x8192 .bf16) (x1 : Vec Ideal S8192x512 .i8) (x2 : Vec Ideal S64x512 .i8) (x3 : Vec Ideal S64x1024 .bf16)
    (r : Fin 16) (l : Fin 512) (f : Fin 2) (n : Fin 1024) (hn : n.val = 2 * l.val + f.val) :
    YBLK x1 (XGRID x0) (ZGRID x2) (SGRID x3) (ix2 r n)
      = ∑ g : Fin 64, ∑ k : Fin 128, x0 (ix2 r ⟨128 * g.val + k.val, by omega⟩) * WBLK x1 x2 x3 g k l f := by
  rw [yblk_ix _ _ _ _ r n ⟨l.val / 256, by omega⟩ (by show n.val / 512 = l.val / 256; omega) ⟨16 * f.val + r.val, by omega⟩
    (by show 16 * (n.val % 2) + r.val = 16 * f.val + r.val; omega) ⟨l.val % 256, by omega⟩ (by show n.val % 512 / 2 = l.val % 256; omega)]
  show ∑ g ∈ Finset.range 64, GROUPN x1 (XGRID x0) (ZGRID x2) (SGRID x3) ⟨l.val / 256, by omega⟩ g ⟨16 * f.val + r.val, by omega⟩ ⟨l.val % 256, by omega⟩ = _
  rw [Finset.sum_range]
  refine Finset.sum_congr rfl fun g _ => ?_
  rw [groupn_of_lt _ _ _ _ _ g.val g.isLt]
  exact group_apply x0 x1 x2 x3 _ g f r _ rfl _ l (by show l.val = 256 * (l.val / 256) + l.val % 256; omega)

end Cert.KernelIdeal.Val

end
-- ==== Proof.IValue.lean ====
/- The idealized kernel's run with its result array stated block by block, over `IFrame`. -/
module

public import proofs.«01_k».proof.Proof.IFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 16 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 16 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  simp only [flushed4, outsAt0_B m c t h0]

/-- The index map sends distinct grid points to distinct block indices (decided over the 16 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S16x16384.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S64x32x256 .bf16) : Vec F S64x32x256 .bf16 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S16x1024 .bf16 × Vec F S64x32x256 .bf16 :=
  ((VO0_4.read (Elt F) VO0_4.junk, VS0_0.read (Elt F) VS0_0.junk) : Vec F S16x1024 .bf16 × Vec F S64x32x256 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S16x1024 .bf16 × Vec F S64x32x256 .bf16) : Vec F S16x1024 .bf16 × Vec F S64x32x256 .bf16 :=
  if h0 : n % 16 = 0 then
    (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
  else
    (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2)

/-- `stAt0` at a point of case A: that case's contents. -/
theorem stAt0_A (c : Dev nD) (t : Fin cfg0.N) (acc : Vec F S16x1024 .bf16 × Vec F S64x32x256 .bf16) (h0 : t.val % 16 = 0) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) :=
  (dif_pos h0).trans rfl

/-- `stAt0` at a point of case B: that case's contents, over `acc`. -/
theorem stAt0_B (c : Dev nD) (t : Fin cfg0.N) (acc : Vec F S16x1024 .bf16 × Vec F S64x32x256 .bf16) (h0 : ¬t.val % 16 = 0) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) acc.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one per point),
    `i`'s place in it, and the point that writes it back. -/
abbrev run4Of (i : S16x16384.Idx) : ℕ := 16 * ((i 0).val / 16 - 0) + 1 * ((i 1).val / 1024 - 0)
set_option backward.proofsInPublic true in
abbrev loc4Of (i : S16x16384.Idx) : S16x1024.Idx := fun a => match a with
  | ⟨0, _⟩ => ⟨(i 0).val % 16, Nat.mod_lt _ (by decide)⟩
  | ⟨1, _⟩ => ⟨(i 1).val % 1024, Nat.mod_lt _ (by decide)⟩
abbrev pt4Of (i : S16x16384.Idx) : ℕ := run4Of i

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v1) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 15
    ∧ 16 * (win0_4.index t (0 : Fin 2) - 0) + 1 * (win0_4.index t (1 : Fin 2) - 0) = t.val :=
  (by decide +kernel : ∀ t : Fin grid0.N, _)

/-- Every block of the box is SOME flushing point's: `onto4Pt`, the point that writes back the block at place `q` of the box. -/
abbrev onto4Pt (q0 : Fin 1) (q1 : Fin 16) : Fin grid0.N :=
  ⟨16 * q0.val + 1 * q1.val, lt_of_lt_of_eq (by omega) N_0.symm⟩
theorem idx_onto4 : ∀ (q0 : Fin 1) (q1 : Fin 16), ∃ t : Fin cfg0.N, (cfg0.win 4).flush t = true ∧ win0_4.index t = ![q0.val + 0, q1.val + 0] :=
  fun q0 q1 => ⟨onto4Pt q0 q1, (by decide +kernel : ∀ (q0 : Fin 1) (q1 : Fin 16), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  obtain ⟨e0, e1, e2⟩ := idx_facts4 t
  funext y
  have hy0 : (y 0).val < 16 := (y 0).isLt
  have hy1 : (y 1).val < 1024 := (y 1).isLt
  have hb0 : (((cfg0.win 4).blk t).view.emb y 0).val = win0_4.index t (0 : Fin 2) * 16 + 1 * (y 0).val := rfl
  have hb1 : (((cfg0.win 4).blk t).view.emb y 1).val = win0_4.index t (1 : Fin 2) * 1024 + 1 * (y 1).val := rfl
  have hr : run4Of (((cfg0.win 4).blk t).view.emb y) = t.val := by
    show 16 * ((((cfg0.win 4).blk t).view.emb y 0).val / 16 - 0) + 1 * ((((cfg0.win 4).blk t).view.emb y 1).val / 1024 - 0) = _
    rw [hb0, hb1]
    rw [show (win0_4.index t (0 : Fin 2) * 16 + 1 * (y 0).val) / 16 = win0_4.index t (0 : Fin 2) from by omega]; rw [show (win0_4.index t (1 : Fin 2) * 1024 + 1 * (y 1).val) / 1024 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 16 = (y 0).val; rw [hb0]; omega
    | ⟨1, _⟩ => show (((cfg0.win 4).blk t).view.emb y 1).val % 1024 = (y 1).val; rw [hb1]; omega
  have hp : pt4Of (((cfg0.win 4).blk t).view.emb y) = t.val := by
    exact hr
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S16x16384.Idx) :
    i ∈ ((cfg0.win 4).blk t).view.set ↔ ∀ a : Fin 2, win0_4.index t a * S16x1024.size a ≤ (i a).val ∧ (i a).val < win0_4.index t a * S16x1024.size a + S16x1024.size a := by
  show i ∈ ((View.whole main_v1).slice (win0_4.rect t)).set ↔ _
  rw [View.set_slice_whole, Rect.mem_set_unit]
  exact Iff.rfl

/-- THE COVERED INDICES: in some flushing point's block iff inside the box those blocks fill. -/
theorem covered_iff4 (i : S16x16384.Idx) :
    (∃ t : Fin cfg0.N, (cfg0.win 4).flush t = true ∧ i ∈ ((cfg0.win 4).blk t).view.set) ↔ 0 ≤ (i 0).val ∧ (i 0).val < 16 ∧ 0 ≤ (i 1).val ∧ (i 1).val < 16384 := by
  constructor
  · rintro ⟨t, -, hi⟩
    rw [mem_blk4] at hi
    have b0 : win0_4.index t (0 : Fin 2) * 16 ≤ (i 0).val ∧ (i 0).val < win0_4.index t (0 : Fin 2) * 16 + 16 := hi 0
    have b1 : win0_4.index t (1 : Fin 2) * 1024 ≤ (i 1).val ∧ (i 1).val < win0_4.index t (1 : Fin 2) * 1024 + 1024 := hi 1
    obtain ⟨e0, e1, e2⟩ := idx_facts4 t
    omega
  · intro h
    have hi0 : (i 0).val < 16 := (i 0).isLt
    have hi1 : (i 1).val < 16384 := (i 1).isLt
    obtain ⟨t, hft, ht⟩ := idx_onto4 ⟨(i 0).val / 16 - 0, by omega⟩ ⟨(i 1).val / 1024 - 0, by omega⟩
    have q0 : win0_4.index t (0 : Fin 2) = (i 0).val / 16 - 0 + 0 := congrFun ht 0
    have q1 : win0_4.index t (1 : Fin 2) = (i 1).val / 1024 - 0 + 0 := congrFun ht 1
    refine ⟨t, hft, ?_⟩
    rw [mem_blk4]
    intro a
    match a with
    | ⟨0, _⟩ => show win0_4.index t (0 : Fin 2) * 16 ≤ (i 0).val ∧ (i 0).val < win0_4.index t (0 : Fin 2) * 16 + 16; omega
    | ⟨1, _⟩ => show win0_4.index t (1 : Fin 2) * 1024 ≤ (i 1).val ∧ (i 1).val < win0_4.index t (1 : Fin 2) * 1024 + 1024; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 16 := (i 0).isLt; have h1 : (i 1).val < 16384 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      kept_main_arg0 m r h c,
      kept_main_arg1 m r h c,
      kept_main_arg2 m r h c,
      kept_main_arg3 m r h c⟩)
    (run_main m ρ)

end Cert.KernelIdeal.Value

end
-- ==== Proof.Array.lean ====
/- The result array of the idealized kernel at exact arithmetic. -/
module

public import proofs.«01_k».proof.Proof.Collapse
public import proofs.«01_k».proof.Proof.IValue
public import Idealize.ShloMosaic.Lib.Pipeline.ValueKit
public import Idealize.ShloMosaic.Lib.Claim

@[expose] public section

set_option maxRecDepth 16384

noncomputable section

namespace Cert.KernelIdeal.Val

open Cert.KernelIdeal Cert.KernelIdeal.Gen Cert.KernelIdeal.Value Idealize.ShloMosaic Idealize.ShloMosaic.TcCoe Idealize.ShloMosaic.Tactic

variable (m : (ℓ : Loc nD τ sig) → Buf (Elt Ideal) ℓ)

/-- The result at token row `r` and output column `2 n + f`: over the 64 groups of 128 weights, the sum of an activation
    times its weight, the weight being nibble `f` of the packed byte less the group's zero point, times the group's scale. -/
def YOUT (x : Vec Ideal S16x1x8192 .bf16) (q : Vec Ideal S8192x8192 .i8) (z : Vec Ideal S64x8192 .i8) (s : Vec Ideal S64x16384 .bf16)
    (r : Fin 16) (n : Fin 8192) (f : Fin 2) : EReal :=
  ∑ g : Fin 64, ∑ k : Fin 128, x (ix3 r 0 ⟨128 * g.val + k.val, by omega⟩)
    * ((NIB f.val (q (ix2 ⟨128 * g.val + k.val, by omega⟩ n)) - NIB f.val (z (ix2 g n))) * s (ix2 g ⟨2 * n.val + f.val, by omega⟩))

/-- The whole result array. -/
def YARR (x : Vec Ideal S16x1x8192 .bf16) (q : Vec Ideal S8192x8192 .i8) (z : Vec Ideal S64x8192 .i8) (s : Vec Ideal S64x16384 .bf16) :
    Vec Ideal S16x16384 .bf16 :=
  fun j => YOUT x q z s (j 0) ⟨(j 1).val / 2, by have : (j 1).val < 16384 := (j 1).isLt; omega⟩ ⟨(j 1).val % 2, by omega⟩

/-- The place of every window's block at grid point `t`: the activations are one block, of every other array it is
    column block `t`. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- The grid has 16 points. -/
theorem lt16 (t : Fin cfg0.N) : t.val < 16 := lt_of_lt_of_eq t.isLt (show cfg0.N = 16 from N_0)

/-- The activations as the region finds them. -/
def XV (c : Dev nD) : Vec Ideal S16x8192 .bf16 := V m c main_v0

/-- The activations as the kernel gets them: the argument without its middle axis of extent one. -/
theorem xv_apply (c : Dev nD) (r : Fin 16) (k : Fin 8192) : XV m c (ix2 r k) = m ((c : Thread nD τ).loc main_arg0) (ix3 r 0 k) := by
  unfold XV
  entry_read
  pointwise

/-- The block of activations is the whole array at every grid point. -/
theorem iblk0 (c : Dev nD) (t : Fin cfg0.N) : iblk m c 0 t = XV m c := by
  unfold XV
  blk_ext! [iblk, idx t]

/-- The block of packed weights at grid point `t` is columns `512 t` to `512 t + 511`. -/
theorem iblk1 (c : Dev nD) (t : Fin cfg0.N) (r : Fin 8192) (l : Fin 512) :
    iblk m c 1 t (ix2 r l) = m ((c : Thread nD τ).loc main_arg1) (ix2 r ⟨512 * t.val + l.val, by have := lt16 t; omega⟩) := by
  blk_ext! [iblk, V, idx t]

/-- The block of packed zero points at grid point `t` is columns `512 t` to `512 t + 511`. -/
theorem iblk2 (c : Dev nD) (t : Fin cfg0.N) (r : Fin 64) (l : Fin 512) :
    iblk m c 2 t (ix2 r l) = m ((c : Thread nD τ).loc main_arg2) (ix2 r ⟨512 * t.val + l.val, by have := lt16 t; omega⟩) := by
  blk_ext! [iblk, V, idx t]

/-- The block of scales at grid point `t` is columns `1024 t` to `1024 t + 1023`. -/
theorem iblk3 (c : Dev nD) (t : Fin cfg0.N) (r : Fin 64) (l : Fin 1024) :
    iblk m c 3 t (ix2 r l) = m ((c : Thread nD τ).loc main_arg3) (ix2 r ⟨1024 * t.val + l.val, by have := lt16 t; omega⟩) := by
  blk_ext! [iblk, V, idx t]

/-- After every grid point the scratch of activations holds the expanded activations: the first point stores them, the
    later ones keep them. -/
theorem scratch (c : Dev nD) : ∀ (n : ℕ) (hn : n < cfg0.N), (outsAt0 m c n hn).2 = XGRID (XV m c)
  | 0, hn => by
    rw [outsAt0_A m c ⟨0, hn⟩ (Nat.zero_mod _)]
    dsimp only
    rw [sout_A, iblk0]
  | n + 1, hn => by
    have h16 : n + 1 < 16 := lt16 ⟨n + 1, hn⟩
    rw [outsAt0_B m c ⟨n + 1, hn⟩ (by show ¬(n + 1) % 16 = 0; omega)]
    dsimp only
    exact scratch c n _

/-- What grid point `t` leaves in the output block. -/
theorem block (c : Dev nD) (t : Fin cfg0.N) :
    (outsAt0 m c t.val t.isLt).1 = YBLK (iblk m c 1 t) (XGRID (XV m c)) (ZGRID (iblk m c 2 t)) (SGRID (iblk m c 3 t)) := by
  by_cases h0 : t.val % 16 = 0
  · rw [outsAt0_A m c t h0]
    dsimp only
    rw [out_A, iblk0]
  · rw [outsAt0_B m c t h0]
    dsimp only
    rw [out_B, scratch]

/-- The same in terms of the arguments. -/
theorem block_apply (c : Dev nD) (t : Fin cfg0.N) (r : Fin 16) (n : Fin 1024) (J : S16x16384.Idx) (h0 : J 0 = r) (h1 : (J 1).val = 1024 * t.val + n.val) :
    (outsAt0 m c t.val t.isLt).1 (ix2 r n)
      = YARR (m ((c : Thread nD τ).loc main_arg0)) (m ((c : Thread nD τ).loc main_arg1)) (m ((c : Thread nD τ).loc main_arg2)) (m ((c : Thread nD τ).loc main_arg3)) J := by
  have ht := lt16 t
  rw [block, yblk_apply _ _ _ _ r ⟨n.val / 2, by omega⟩ ⟨n.val % 2, by omega⟩ n (by show n.val = 2 * (n.val / 2) + n.val % 2; omega)]
  have hJ : (J 1).val < 16384 := (J 1).isLt
  refine Eq.trans ?_ (congrArg (fun a : Fin 16 => YOUT (m ((c : Thread nD τ).loc main_arg0)) (m ((c : Thread nD τ).loc main_arg1)) (m ((c : Thread nD τ).loc main_arg2))
    (m ((c : Thread nD τ).loc main_arg3)) a ⟨(J 1).val / 2, by omega⟩ ⟨(J 1).val % 2, by omega⟩) h0.symm)
  show _ = YOUT (m ((c : Thread nD τ).loc main_arg0)) (m ((c : Thread nD τ).loc main_arg1)) (m ((c : Thread nD τ).loc main_arg2))
    (m ((c : Thread nD τ).loc main_arg3)) r ⟨(J 1).val / 2, by omega⟩ ⟨(J 1).val % 2, by omega⟩
  unfold YOUT
  refine Finset.sum_congr rfl fun g _ => Finset.sum_congr rfl fun k _ => ?_
  rw [xv_apply]
  refine congrArg (HMul.hMul (α := EReal) (β := EReal) (γ := EReal) _) ?_
  unfold WBLK
  rw [iblk1, iblk2, iblk3]
  have e1 : n.val % 2 = (J 1).val % 2 := by omega
  have e2 : 512 * t.val + n.val / 2 = (J 1).val / 2 := by omega
  refine congrArg₂ (· * ·) (congrArg₂ (· - ·) ?_ ?_) ?_
  · exact congrArg₂ NIB e1 (congrArg (m ((c : Thread nD τ).loc main_arg1)) (congrArg (ix2 _) (Fin.ext e2)))
  · exact congrArg₂ NIB e1 (congrArg (m ((c : Thread nD τ).loc main_arg2)) (congrArg (ix2 _) (Fin.ext e2)))
  · refine congrArg (m ((c : Thread nD τ).loc main_arg3)) (congrArg (ix2 _) (Fin.ext ?_))
    show 1024 * t.val + (2 * (n.val / 2) + n.val % 2) = 2 * ((J 1).val / 2) + (J 1).val % 2
    omega

/-- The result array after the run. -/
theorem final (c : Dev nD) : (dats m 0 c).arrAt 4 cfg0.N
    = YARR (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t hf => ?_) fun i => (covered_iff4 i).2 (by
    have h0 : (i 0).val < 16 := (i 0).isLt; have h1 : (i 1).val < 16384 := (i 1).isLt; omega)
  rw [flushed4]
  funext y
  have hi : win0_4.index t = ![0, t.val] := (idx t).2.2.2.2
  have hb0 : (((cfg0.win 4).blk t).view.emb y 0).val = win0_4.index t (0 : Fin 2) * 16 + 1 * (y 0).val := rfl
  have hb1 : (((cfg0.win 4).blk t).view.emb y 1).val = win0_4.index t (1 : Fin 2) * 1024 + 1 * (y 1).val := rfl
  have hx : (cfg0.win 4).xinj (grid0.coords t) y = ix2 (⟨(y 0).val, (y 0).isLt⟩ : Fin 16) (⟨(y 1).val, (y 1).isLt⟩ : Fin 1024) := by
    funext a; apply Fin.ext
    match a with
    | ⟨0, _⟩ => rfl
    | ⟨1, _⟩ => rfl
  have i0 : win0_4.index t (0 : Fin 2) = 0 := congrFun hi 0
  have i1 : win0_4.index t (1 : Fin 2) = t.val := congrFun hi 1
  show (outsAt0 m c t.val t.isLt).1 ((cfg0.win 4).xinj (grid0.coords t) y) = _
  rw [hx]
  refine block_apply m c t _ _ (((cfg0.win 4).blk t).view.emb y) (Fin.ext ?_) ?_
  · rw [hb0, i0]; show 0 * 16 + 1 * (y 0).val = (y 0).val; omega
  · rw [hb1, i1]; show t.val * 1024 + 1 * (y 1).val = 1024 * t.val + (y 1).val; omega

end Cert.KernelIdeal.Val

end
-- ==== Proof.RefValue.lean ====
/- What the idealized reference computes, at exact arithmetic. -/
module

public import proofs.«01_k».proof.Proof.Array
public import proofs.«01_k».proof.Proof.Gen.ReferenceIdeal.Read
public import Idealize.ShloMosaic.Lib.Pointwise

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe
open Cert.KernelIdeal.Val (NIB NIBW YOUT YARR)

/-- The low nibble of a byte, as the reference takes it. -/
theorem nib_low : ∀ v : BitVec 8, IntOp.andi (v.setWidth 32) 15#32 = NIBW 0 v := by decide +kernel

/-- The high nibble: the reference masks what is left after the shift, which changes nothing. -/
theorem nib_high : ∀ v : BitVec 8, IntOp.andi (IntOp.shrsi .host (v.setWidth 32) 4#32) 15#32 = NIBW 1 v := by decide +kernel

/-- The reference's low nibbles of the weights, at an index. -/
theorem v3_ix (x1 : Vec Ideal S8192x8192 .i8) (i : S8192x8192.Idx) : val_main_v3 (F := Ideal) x1 i = NIBW 0 (x1 i) := by
  rw [val_main_v3_apply, val_main_v0_apply, val_main_v2_apply, val_main_c_apply]
  exact nib_low _

/-- The reference's high nibbles of the weights, at an index. -/
theorem v7_ix (x1 : Vec Ideal S8192x8192 .i8) (i : S8192x8192.Idx) : val_main_v7 (F := Ideal) x1 i = NIBW 1 (x1 i) := by
  rw [val_main_v7_apply, val_main_v5_apply, val_main_v0_apply, val_main_v4_apply, val_main_c_0_apply, val_main_v6_apply, val_main_c_1_apply]
  exact nib_high _

/-- The reference's low nibbles of the zero points, at an index. -/
theorem v14_ix (x2 : Vec Ideal S64x8192 .i8) (i : S64x8192.Idx) : val_main_v14 (F := Ideal) x2 i = NIBW 0 (x2 i) := by
  rw [val_main_v14_apply, val_main_v1_apply, val_main_v13_apply, val_main_c_2_apply]
  exact nib_low _

/-- The reference's high nibbles of the zero points, at an index. -/
theorem v18_ix (x2 : Vec Ideal S64x8192 .i8) (i : S64x8192.Idx) : val_main_v18 (F := Ideal) x2 i = NIBW 1 (x2 i) := by
  rw [val_main_v18_apply, val_main_v16_apply, val_main_v1_apply, val_main_v15_apply, val_main_c_3_apply, val_main_v17_apply, val_main_c_4_apply]
  exact nib_high _

/-- The stacked weights' nibbles. -/
theorem v10_ix (x1 : Vec Ideal S8192x8192 .i8) (f : Fin 2) (a : Fin 8192) (n : Fin 8192) :
    val_main_v10 (F := Ideal) x1 (ix3 f a n) = NIBW f.val (x1 (ix2 a n)) := by
  have hf : f = 0 ∨ f = 1 := by omega
  rcases hf with rfl | rfl
  · refine Eq.trans ?_ (v3_ix x1 (ix2 a n))
    unfold val_main_v10
    pointwise [val_main_v8, val_main_v9]
  · refine Eq.trans ?_ (v7_ix x1 (ix2 a n))
    unfold val_main_v10
    pointwise [val_main_v8, val_main_v9]

/-- The stacked zero points' nibbles. -/
theorem v21_ix (x2 : Vec Ideal S64x8192 .i8) (f : Fin 2) (g : Fin 64) (n : Fin 8192) :
    val_main_v21 (F := Ideal) x2 (ix3 f g n) = NIBW f.val (x2 (ix2 g n)) := by
  have hf : f = 0 ∨ f = 1 := by omega
  rcases hf with rfl | rfl
  · refine Eq.trans ?_ (v14_ix x2 (ix2 g n))
    unfold val_main_v21
    pointwise [val_main_v19, val_main_v20]
  · refine Eq.trans ?_ (v18_ix x2 (ix2 g n))
    unfold val_main_v21
    pointwise [val_main_v19, val_main_v20]

/-- The scales of even and of odd columns, stacked. -/
theorem v27_ix (x3 : Vec Ideal S64x16384 .bf16) (f : Fin 2) (g : Fin 64) (n : Fin 8192) :
    val_main_v27 (F := Ideal) x3 (ix3 f g n) = x3 (ix2 g ⟨2 * n.val + f.val, by omega⟩) := by
  have hf : f = 0 ∨ f = 1 := by omega
  rcases hf with rfl | rfl
  · unfold val_main_v27
    pointwise [val_main_v25, val_main_v26, val_main_v23, val_main_v24]
  · unfold val_main_v27
    pointwise [val_main_v25, val_main_v26, val_main_v23, val_main_v24]
    exact congrArg x3 (congrArg (ix2 g) (Fin.ext (Nat.add_comm _ _)))

/-- The weights. -/
theorem v33_ix (x1 : Vec Ideal S8192x8192 .i8) (x2 : Vec Ideal S64x8192 .i8) (x3 : Vec Ideal S64x16384 .bf16) (f : Fin 2) (g : Fin 64) (k : Fin 128) (n : Fin 8192) :
    val_main_v33 (F := Ideal) x1 x2 x3 (ix4 f g k n)
      = (NIB f.val (x1 (ix2 ⟨128 * g.val + k.val, by omega⟩ n)) - NIB f.val (x2 (ix2 g n))) * x3 (ix2 g ⟨2 * n.val + f.val, by omega⟩) := by
  rw [val_main_v33_apply, val_main_v30_apply, val_main_v12_apply, val_main_v11_apply, val_main_v29_apply, val_main_v28_apply, val_main_v22_apply,
    val_main_v32_apply, val_main_v31_apply]
  have e1 : idx_main_v12 (ix4 f g k n) = ix3 f ⟨128 * g.val + k.val, by omega⟩ n := by
    funext a
    apply Fin.ext
    match a with
    | ⟨0, _⟩ => show (((f.val * 64 + g.val) * 128 + k.val) * 8192 + n.val) / 67108864 = f.val; omega
    | ⟨1, _⟩ => show (((f.val * 64 + g.val) * 128 + k.val) * 8192 + n.val) / 8192 % 8192 = 128 * g.val + k.val; omega
    | ⟨2, _⟩ => show (((f.val * 64 + g.val) * 128 + k.val) * 8192 + n.val) % 8192 = n.val; omega
  have e2 : idx_main_v28 (idx_main_v29 (ix4 f g k n)) = ix3 f g n := by
    funext a
    match a with
    | ⟨0, _⟩ => rfl
    | ⟨1, _⟩ => rfl
    | ⟨2, _⟩ => rfl
  have e3 : idx_main_v31 (idx_main_v32 (ix4 f g k n)) = ix3 f g n := by
    funext a
    match a with
    | ⟨0, _⟩ => rfl
    | ⟨1, _⟩ => rfl
    | ⟨2, _⟩ => rfl
  rw [e1, e2, e3, v10_ix, v21_ix, v27_ix]
  rfl

/-- The activations, group by group. -/
theorem v35_ix (x0 : Vec Ideal S16x1x8192 .bf16) (g : Fin 64) (r : Fin 16) (k : Fin 128) :
    val_main_v35 (F := Ideal) x0 (ix3 g r k) = x0 (ix3 r 0 ⟨128 * g.val + k.val, by omega⟩) := by
  rw [val_main_v35_apply, val_main_v34_apply]
  refine congrArg x0 ?_
  funext a
  apply Fin.ext
  match a with
  | ⟨0, _⟩ => show ((r.val * 64 + g.val) * 128 + k.val) / 8192 = r.val; omega
  | ⟨1, _⟩ => rfl
  | ⟨2, _⟩ => show ((r.val * 64 + g.val) * 128 + k.val) % 8192 = 128 * g.val + k.val; omega

/-- The sum over the groups. -/
theorem v38_ix (x0 : Vec Ideal S16x1x8192 .bf16) (x1 : Vec Ideal S8192x8192 .i8) (x2 : Vec Ideal S64x8192 .i8) (x3 : Vec Ideal S64x16384 .bf16)
    (r : Fin 16) (n : Fin 8192) (f : Fin 2) : val_main_v38 (F := Ideal) x0 x1 x2 x3 (ix3 r n f) = YOUT x0 x1 x2 x3 r n f := by
  rw [val_main_v38_apply, val_main_cst_apply]
  refine (congrArg (· + _) Ideal.ofBits_zero_f32).trans ((zero_add _).trans ?_)
  unfold YOUT
  refine Finset.sum_congr rfl fun g _ => ?_
  rw [val_main_v37_apply, val_main_v36_apply]
  refine Finset.sum_congr rfl fun k _ => ?_
  have e1 : lidx_main_v36 (idx_main_v37 (idx_main_v38 (ix3 r n f) g)) k = ix4 f g k n := by
    funext a
    match a with
    | ⟨0, _⟩ => rfl
    | ⟨1, _⟩ => rfl
    | ⟨2, _⟩ => rfl
    | ⟨3, _⟩ => rfl
  have e2 : ridx_main_v36 (idx_main_v37 (idx_main_v38 (ix3 r n f) g)) k = ix3 g r k := by
    funext a
    match a with
    | ⟨0, _⟩ => rfl
    | ⟨1, _⟩ => rfl
    | ⟨2, _⟩ => rfl
  rw [e1, e2, v33_ix, v35_ix]
  exact mul_comm _ _

/-- The reference's result is the kernel's. -/
theorem v40_eq (x0 : Vec Ideal S16x1x8192 .bf16) (x1 : Vec Ideal S8192x8192 .i8) (x2 : Vec Ideal S64x8192 .i8) (x3 : Vec Ideal S64x16384 .bf16)
    (j : S16x16384.Idx) : val_main_v40 (F := Ideal) x0 x1 x2 x3 j = YARR x0 x1 x2 x3 j := by
  rw [val_main_v40_apply, val_main_v39_apply]
  have h0 : (j 0).val < 16 := (j 0).isLt
  have h1 : (j 1).val < 16384 := (j 1).isLt
  have e : idx_main_v39 j = ix3 ⟨(j 0).val, h0⟩ ⟨(j 1).val / 2, by omega⟩ ⟨(j 1).val % 2, by omega⟩ := by
    funext a
    apply Fin.ext
    match a with
    | ⟨0, _⟩ => show ((j 0).val * 16384 + (j 1).val) / 16384 = (j 0).val; omega
    | ⟨1, _⟩ => show ((j 0).val * 16384 + (j 1).val) / 2 % 8192 = (j 1).val / 2; omega
    | ⟨2, _⟩ => show ((j 0).val * 16384 + (j 1).val) % 2 = (j 1).val % 2; omega
  rw [e, v38_ix]
  rfl

end Cert.ReferenceIdeal.Val

end
-- ==== Proof.Algebraic.lean ====
/- The value claim: at exact arithmetic the idealized kernel and the idealized reference compute the same result. -/
module

public import proofs.«01_k».proof.Defs
public import proofs.«01_k».proof.Proof.RefValue
public import proofs.«01_k».proof.Proof.Gen.ReferenceIdeal.Run
public import proofs.«01_k».proof.Proof.Gen.KernelIdeal
public import proofs.«01_k».proof.Proof.Gen.ReferenceIdeal

@[expose] public section

set_option maxRecDepth 16384

noncomputable section

open Idealize.ShloMosaic Idealize.ShloMosaic.TcCoe Idealize.SL.Sem

namespace Cert.Proof

/-- Over the extended reals, from the same arguments, both runs end with the same result array. -/
theorem algebraic : Cert.algebraic_KernelIdeal_ReferenceIdeal := by
  pair_intro
  · run_from Cert.KernelIdeal.Value.run_blocks m g
  · run_from Cert.ReferenceIdeal.Value.run m' g'
    rw [Cert.KernelIdeal.Val.final m c]
    rw [Cert.ReferenceIdeal.Read.val_main_v40_eq]
    funext j
    refine (Cert.ReferenceIdeal.Val.v40_eq _ _ _ _ j).trans ?_
    rw [(hagree c).2.1, (hagree c).2.2.1, (hagree c).2.2.2]

end Cert.Proof

end
-- ==== Proof.lean ====
/- The claim: the kernel, its idealization and the reference run and leave their arguments as they were; the
   idealization is the kernel over the extended reals; and there it computes what the reference computes. -/
module

public import proofs.«01_k».proof.Defs
public import proofs.«01_k».proof.Proof.Gen.ReferenceIdeal.Read
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    frame_p, frame_pi, frame_ri, preserves,
    algebraic⟩

end Cert.Proof

end
